-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1048576x128 : Shape := ⟨2, ![1048576, 128]⟩
abbrev S1048576 : Shape := ⟨1, ![1048576]⟩
abbrev S2x16 : Shape := ⟨2, ![2, 16]⟩
abbrev S256x1x4096 : Shape := ⟨3, ![256, 1, 4096]⟩
abbrev S8x128 : Shape := ⟨2, ![8, 128]⟩
abbrev S1x1 : Shape := ⟨2, ![1, 1]⟩
abbrev S_ : Shape := ⟨0, ![]⟩
abbrev S1 : Shape := ⟨1, ![1]⟩
abbrev S4096x128 : Shape := ⟨2, ![4096, 128]⟩
abbrev S1x1x4096 : Shape := ⟨3, ![1, 1, 4096]⟩
abbrev S1x16 : Shape := ⟨2, ![1, 16]⟩
abbrev S4096 : Shape := ⟨1, ![4096]⟩
abbrev S4096x1 : Shape := ⟨2, ![4096, 1]⟩
abbrev S128x1 : Shape := ⟨2, ![128, 1]⟩
abbrev S4096x16 : Shape := ⟨2, ![4096, 16]⟩
abbrev S16 : Shape := ⟨1, ![16]⟩
abbrev S1x1x16 : Shape := ⟨3, ![1, 1, 16]⟩
abbrev S1x1x1 : Shape := ⟨3, ![1, 1, 1]⟩

abbrev nBuf : Space → Nat
  | .hbm => 8
  | .vmem => 9
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S2x16, .f32⟩
  | .hbm, ⟨3, _⟩ => ⟨S256x1x4096, .i32⟩
  | .hbm, ⟨4, _⟩ => ⟨S8x128, .f32⟩
  | .hbm, ⟨5, _⟩ => ⟨S1x1, .f32⟩
  | .hbm, ⟨6, _⟩ => ⟨S_, .f32⟩
  | .hbm, ⟨7, _⟩ => ⟨S1, .f32⟩
  | .local _ .vmem, ⟨0, _⟩ => ⟨S4096x128, .f32⟩
  | .local _ .vmem, ⟨1, _⟩ => ⟨S4096x128, .f32⟩
  | .local _ .vmem, ⟨2, _⟩ => ⟨S1x1x4096, .i32⟩
  | .local _ .vmem, ⟨3, _⟩ => ⟨S1x1x4096, .i32⟩
  | .local _ .vmem, ⟨4, _⟩ => ⟨S2x16, .f32⟩
  | .local _ .vmem, ⟨5, _⟩ => ⟨S8x128, .f32⟩
  | .local _ .vmem, ⟨6, _⟩ => ⟨S1x16, .f32⟩
  | .local _ .vmem, ⟨7, _⟩ => ⟨S1x16, .f32⟩
  | .local _ .vmem, ⟨8, _⟩ => ⟨S1x16, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v61 : BitVec 1 := Scalar.cmpi .eq arg0 c255_i32
  let v62 : BitVec 32 := Scalar.extui v61
  let c0_i32_27 : BitVec 32 := 0#32
  let v63 : BitVec 1 := Scalar.cmpi .ne v62 c0_i32_27
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1048576x128 : Shape := ⟨2, ![1048576, 128]⟩
abbrev S1048576 : Shape := ⟨1, ![1048576]⟩
abbrev S_ : Shape := ⟨0, ![]⟩
abbrev S1048576x1 : Shape := ⟨2, ![1048576, 1]⟩
abbrev S1 : Shape := ⟨1, ![1]⟩

abbrev nBuf : Space → Nat
  | .hbm => 571
  | .vmem => 0
  | .smem => 0
  | _ => 0

abbrev hbmTy0_0 (i : Nat) : BufTy := match i % 128 with
  | 0 => ⟨S1048576x128, .f32⟩
  | 1 => ⟨S1048576, .i32⟩
  | 2 => ⟨S_, .f32⟩
  | 3 => ⟨S1048576, .f32⟩
  | 4 => ⟨S_, .f32⟩
  | 5 => ⟨S1048576, .f32⟩
  | 6 => ⟨S1048576, .f32⟩
  | 7 => ⟨S1048576x1, .f32⟩
  | 8 => ⟨S1048576x128, .f32⟩
  | 9 => ⟨S1048576x128, .f32⟩
  | 10 => ⟨S1048576x128, .f32⟩
  | 11 => ⟨S_, .f32⟩
  | 12 => ⟨S1048576, .f32⟩
  | 13 => ⟨S1048576x1, .f32⟩
  | 14 => ⟨S1048576x128, .f32⟩
  | 15 => ⟨S1048576x128, .f32⟩
  | 16 => ⟨S_, .f32⟩
  | 17 => ⟨S1048576, .f32⟩
  | 18 => ⟨S1048576x128, .i32⟩
  | 19 => ⟨S_, .f32⟩
  | 20 => ⟨S_, .i32⟩
  | 21 => ⟨S1048576, .f32⟩
  | 22 => ⟨S1048576, .i32⟩
  | 23 => ⟨S1048576, .i1⟩
  | 24 => ⟨S1048576, .f32⟩
  | 25 => ⟨S_, .f32⟩
  | 26 => ⟨S1, .f32⟩
  | 27 => ⟨S_, .f32⟩
  | 28 => ⟨S_, .f32⟩
  | 29 => ⟨S1048576, .f32⟩
  | 30 => ⟨S1048576, .i1⟩
  | 31 => ⟨S1048576, .f32⟩
  | 32 => ⟨S1048576, .i1⟩
  | 33 => ⟨S1048576, .i1⟩
  | 34 => ⟨S1048576, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S1048576, .f32⟩
  | 44 => ⟨S_, .f32⟩
  | 45 => ⟨S_, .f32⟩
  | 46 => ⟨S_, .f32⟩
  | 47 => ⟨S1048576, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S1, .f32⟩
  | 60 => ⟨S1, .f32⟩
  | 61 => ⟨S_, .f32⟩
  | 62 => ⟨S_, .f32⟩
  | 63 => ⟨S1048576, .f32⟩
  | 64 => ⟨S1048576, .i1⟩
  | 65 => ⟨S1048576, .f32⟩
  | 66 => ⟨S1048576, .i1⟩
  | 67 => ⟨S1048576, .i1⟩
  | 68 => ⟨S1048576, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S1048576, .f32⟩
  | 78 => ⟨S_, .f32⟩
  | 79 => ⟨S_, .f32⟩
  | 80 => ⟨S_, .f32⟩
  | 81 => ⟨S1048576, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .i1⟩
  | 90 => ⟨S_, .f32⟩
  | 91 => ⟨S_, .f32⟩
  | 92 => ⟨S_, .f32⟩
  | 93 => ⟨S1, .f32⟩
  | 94 => ⟨S1, .f32⟩
  | 95 => ⟨S_, .f32⟩
  | 96 => ⟨S_, .f32⟩
  | 97 => ⟨S1048576, .f32⟩
  | 98 => ⟨S1048576, .i1⟩
  | 99 => ⟨S1048576, .f32⟩
  | 100 => ⟨S1048576, .i1⟩
  | 101 => ⟨S1048576, .i1⟩
  | 102 => ⟨S1048576, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S1048576, .f32⟩
  | 112 => ⟨S_, .f32⟩
  | 113 => ⟨S_, .f32⟩
  | 114 => ⟨S_, .f32⟩
  | 115 => ⟨S1048576, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .i1⟩
  | 124 => ⟨S_, .f32⟩
  | 125 => ⟨S_, .f32⟩
  | 126 => ⟨S_, .f32⟩
  | 127 => ⟨S1, .f32⟩
  | _ => ⟨S1048576x128, .f32⟩

abbrev hbmTy0_1 (i : Nat) : BufTy := match i % 128 with
  | 0 => ⟨S1, .f32⟩
  | 1 => ⟨S_, .f32⟩
  | 2 => ⟨S_, .f32⟩
  | 3 => ⟨S1048576, .f32⟩
  | 4 => ⟨S1048576, .i1⟩
  | 5 => ⟨S1048576, .f32⟩
  | 6 => ⟨S1048576, .i1⟩
  | 7 => ⟨S1048576, .i1⟩
  | 8 => ⟨S1048576, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S1048576, .f32⟩
  | 18 => ⟨S_, .f32⟩
  | 19 => ⟨S_, .f32⟩
  | 20 => ⟨S_, .f32⟩
  | 21 => ⟨S1048576, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .i1⟩
  | 30 => ⟨S_, .f32⟩
  | 31 => ⟨S_, .f32⟩
  | 32 => ⟨S_, .f32⟩
  | 33 => ⟨S1, .f32⟩
  | 34 => ⟨S1, .f32⟩
  | 35 => ⟨S_, .f32⟩
  | 36 => ⟨S_, .f32⟩
  | 37 => ⟨S1048576, .f32⟩
  | 38 => ⟨S1048576, .i1⟩
  | 39 => ⟨S1048576, .f32⟩
  | 40 => ⟨S1048576, .i1⟩
  | 41 => ⟨S1048576, .i1⟩
  | 42 => ⟨S1048576, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S1048576, .f32⟩
  | 52 => ⟨S_, .f32⟩
  | 53 => ⟨S_, .f32⟩
  | 54 => ⟨S_, .f32⟩
  | 55 => ⟨S1048576, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .i1⟩
  | 64 => ⟨S_, .f32⟩
  | 65 => ⟨S_, .f32⟩
  | 66 => ⟨S_, .f32⟩
  | 67 => ⟨S1, .f32⟩
  | 68 => ⟨S1, .f32⟩
  | 69 => ⟨S_, .f32⟩
  | 70 => ⟨S_, .f32⟩
  | 71 => ⟨S1048576, .f32⟩
  | 72 => ⟨S1048576, .i1⟩
  | 73 => ⟨S1048576, .f32⟩
  | 74 => ⟨S1048576, .i1⟩
  | 75 => ⟨S1048576, .i1⟩
  | 76 => ⟨S1048576, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S1048576, .f32⟩
  | 86 => ⟨S_, .f32⟩
  | 87 => ⟨S_, .f32⟩
  | 88 => ⟨S_, .f32⟩
  | 89 => ⟨S1048576, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .i1⟩
  | 98 => ⟨S_, .f32⟩
  | 99 => ⟨S_, .f32⟩
  | 100 => ⟨S_, .f32⟩
  | 101 => ⟨S1, .f32⟩
  | 102 => ⟨S1, .f32⟩
  | 103 => ⟨S_, .f32⟩
  | 104 => ⟨S_, .f32⟩
  | 105 => ⟨S1048576, .f32⟩
  | 106 => ⟨S1048576, .i1⟩
  | 107 => ⟨S1048576, .f32⟩
  | 108 => ⟨S1048576, .i1⟩
  | 109 => ⟨S1048576, .i1⟩
  | 110 => ⟨S1048576, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S1048576, .f32⟩
  | 120 => ⟨S_, .f32⟩
  | 121 => ⟨S_, .f32⟩
  | 122 => ⟨S_, .f32⟩
  | 123 => ⟨S1048576, .f32⟩
  | 124 => ⟨S_, .f32⟩
  | 125 => ⟨S_, .f32⟩
  | 126 => ⟨S_, .f32⟩
  | 127 => ⟨S_, .f32⟩
  | _ => ⟨S1048576x128, .f32⟩

abbrev hbmTy0_2 (i : Nat) : BufTy := match i % 128 with
  | 0 => ⟨S_, .f32⟩
  | 1 => ⟨S_, .f32⟩
  | 2 => ⟨S_, .f32⟩
  | 3 => ⟨S_, .i1⟩
  | 4 => ⟨S_, .f32⟩
  | 5 => ⟨S_, .f32⟩
  | 6 => ⟨S_, .f32⟩
  | 7 => ⟨S1, .f32⟩
  | 8 => ⟨S1, .f32⟩
  | 9 => ⟨S_, .f32⟩
  | 10 => ⟨S_, .f32⟩
  | 11 => ⟨S1048576, .f32⟩
  | 12 => ⟨S1048576, .i1⟩
  | 13 => ⟨S1048576, .f32⟩
  | 14 => ⟨S1048576, .i1⟩
  | 15 => ⟨S1048576, .i1⟩
  | 16 => ⟨S1048576, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S1048576, .f32⟩
  | 26 => ⟨S_, .f32⟩
  | 27 => ⟨S_, .f32⟩
  | 28 => ⟨S_, .f32⟩
  | 29 => ⟨S1048576, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .i1⟩
  | 38 => ⟨S_, .f32⟩
  | 39 => ⟨S_, .f32⟩
  | 40 => ⟨S_, .f32⟩
  | 41 => ⟨S1, .f32⟩
  | 42 => ⟨S1, .f32⟩
  | 43 => ⟨S_, .f32⟩
  | 44 => ⟨S_, .f32⟩
  | 45 => ⟨S1048576, .f32⟩
  | 46 => ⟨S1048576, .i1⟩
  | 47 => ⟨S1048576, .f32⟩
  | 48 => ⟨S1048576, .i1⟩
  | 49 => ⟨S1048576, .i1⟩
  | 50 => ⟨S1048576, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S1048576, .f32⟩
  | 60 => ⟨S_, .f32⟩
  | 61 => ⟨S_, .f32⟩
  | 62 => ⟨S_, .f32⟩
  | 63 => ⟨S1048576, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .i1⟩
  | 72 => ⟨S_, .f32⟩
  | 73 => ⟨S_, .f32⟩
  | 74 => ⟨S_, .f32⟩
  | 75 => ⟨S1, .f32⟩
  | 76 => ⟨S1, .f32⟩
  | 77 => ⟨S_, .f32⟩
  | 78 => ⟨S_, .f32⟩
  | 79 => ⟨S1048576, .f32⟩
  | 80 => ⟨S1048576, .i1⟩
  | 81 => ⟨S1048576, .f32⟩
  | 82 => ⟨S1048576, .i1⟩
  | 83 => ⟨S1048576, .i1⟩
  | 84 => ⟨S1048576, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S1048576, .f32⟩
  | 94 => ⟨S_, .f32⟩
  | 95 => ⟨S_, .f32⟩
  | 96 => ⟨S_, .f32⟩
  | 97 => ⟨S1048576, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S1, .f32⟩
  | 110 => ⟨S1, .f32⟩
  | 111 => ⟨S_, .f32⟩
  | 112 => ⟨S_, .f32⟩
  | 113 => ⟨S1048576, .f32⟩
  | 114 => ⟨S1048576, .i1⟩
  | 115 => ⟨S1048576, .f32⟩
  | 116 => ⟨S1048576, .i1⟩
  | 117 => ⟨S1048576, .i1⟩
  | 118 => ⟨S1048576, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S1048576, .f32⟩
  | _ => ⟨S1048576x128, .f32⟩

abbrev hbmTy0_3 (i : Nat) : BufTy := match i % 128 with
  | 0 => ⟨S_, .f32⟩
  | 1 => ⟨S_, .f32⟩
  | 2 => ⟨S_, .f32⟩
  | 3 => ⟨S1048576, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .i1⟩
  | 12 => ⟨S_, .f32⟩
  | 13 => ⟨S_, .f32⟩
  | 14 => ⟨S_, .f32⟩
  | 15 => ⟨S1, .f32⟩
  | 16 => ⟨S1, .f32⟩
  | 17 => ⟨S_, .f32⟩
  | 18 => ⟨S_, .f32⟩
  | 19 => ⟨S1048576, .f32⟩
  | 20 => ⟨S1048576, .i1⟩
  | 21 => ⟨S1048576, .f32⟩
  | 22 => ⟨S1048576, .i1⟩
  | 23 => ⟨S1048576, .i1⟩
  | 24 => ⟨S1048576, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S1048576, .f32⟩
  | 34 => ⟨S_, .f32⟩
  | 35 => ⟨S_, .f32⟩
  | 36 => ⟨S_, .f32⟩
  | 37 => ⟨S1048576, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S1, .f32⟩
  | 50 => ⟨S1, .f32⟩
  | 51 => ⟨S_, .f32⟩
  | 52 => ⟨S_, .f32⟩
  | 53 => ⟨S1048576, .f32⟩
  | 54 => ⟨S1048576, .i1⟩
  | 55 => ⟨S1048576, .f32⟩
  | 56 => ⟨S1048576, .i1⟩
  | 57 => ⟨S1048576, .i1⟩
  | 58 => ⟨S1048576, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S1048576, .f32⟩
  | 68 => ⟨S_, .f32⟩
  | 69 => ⟨S_, .f32⟩
  | 70 => ⟨S_, .f32⟩
  | 71 => ⟨S1048576, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .i1⟩
  | 80 => ⟨S_, .f32⟩
  | 81 => ⟨S_, .f32⟩
  | 82 => ⟨S_, .f32⟩
  | 83 => ⟨S1, .f32⟩
  | 84 => ⟨S1, .f32⟩
  | 85 => ⟨S_, .f32⟩
  | 86 => ⟨S_, .f32⟩
  | 87 => ⟨S1048576, .f32⟩
  | 88 => ⟨S1048576, .i1⟩
  | 89 => ⟨S1048576, .f32⟩
  | 90 => ⟨S1048576, .i1⟩
  | 91 => ⟨S1048576, .i1⟩
  | 92 => ⟨S1048576, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S1048576, .f32⟩
  | 102 => ⟨S_, .f32⟩
  | 103 => ⟨S_, .f32⟩
  | 104 => ⟨S_, .f32⟩
  | 105 => ⟨S1048576, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S1, .f32⟩
  | 118 => ⟨S1, .f32⟩
  | 119 => ⟨S_, .f32⟩
  | 120 => ⟨S_, .f32⟩
  | 121 => ⟨S1048576, .f32⟩
  | 122 => ⟨S1048576, .i1⟩
  | 123 => ⟨S1048576, .f32⟩
  | 124 => ⟨S1048576, .i1⟩
  | 125 => ⟨S1048576, .i1⟩
  | 126 => ⟨S1048576, .f32⟩
  | 127 => ⟨S_, .f32⟩
  | _ => ⟨S1048576x128, .f32⟩

abbrev hbmTy0_4 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S1048576, .f32⟩
  | 8 => ⟨S_, .f32⟩
  | 9 => ⟨S_, .f32⟩
  | 10 => ⟨S_, .f32⟩
  | 11 => ⟨S1048576, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .i1⟩
  | 20 => ⟨S_, .f32⟩
  | 21 => ⟨S_, .f32⟩
  | 22 => ⟨S_, .f32⟩
  | 23 => ⟨S1, .f32⟩
  | 24 => ⟨S1, .f32⟩
  | 25 => ⟨S_, .f32⟩
  | 26 => ⟨S_, .f32⟩
  | 27 => ⟨S1048576, .f32⟩
  | 28 => ⟨S1048576, .i1⟩
  | 29 => ⟨S1048576, .f32⟩
  | 30 => ⟨S1048576, .i1⟩
  | 31 => ⟨S1048576, .i1⟩
  | 32 => ⟨S1048576, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S1048576, .f32⟩
  | 42 => ⟨S_, .f32⟩
  | 43 => ⟨S_, .f32⟩
  | 44 => ⟨S_, .f32⟩
  | 45 => ⟨S1048576, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S1, .f32⟩
  | 58 => ⟨S1, .f32⟩
  | _ => ⟨S1048576x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1048576x128, .f32⟩

abbrev bufTy : (tb : Table) → Fin (tcTables nBuf tb) → BufTy
  | .hbm, ⟨i, _⟩ => hbmTy i
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_cst : Ref sig .tc := ⟨.hbm, 35, rfl⟩
abbrev main_call1_v6 : Ref sig .tc := ⟨.hbm, 36, rfl⟩
abbrev main_call1_cst_0 : Ref sig .tc := ⟨.hbm, 37, rfl⟩
abbrev main_call1_v7 : Ref sig .tc := ⟨.hbm, 38, rfl⟩
abbrev main_call1_cst_1 : Ref sig .tc := ⟨.hbm, 39, rfl⟩
abbrev main_call1_v8 : Ref sig .tc := ⟨.hbm, 40, rfl⟩
abbrev main_call1_cst_2 : Ref sig .tc := ⟨.hbm, 41, rfl⟩
abbrev main_call1_v9 : Ref sig .tc := ⟨.hbm, 42, rfl⟩
abbrev main_call1_v10 : Ref sig .tc := ⟨.hbm, 43, rfl⟩
abbrev main_call1_cst_3 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_cst_4 : Ref sig .tc := ⟨.hbm, 48, rfl⟩
abbrev main_call1_v14 : Ref sig .tc := ⟨.hbm, 49, rfl⟩
abbrev main_call1_v15 : Ref sig .tc := ⟨.hbm, 50, rfl⟩
abbrev main_call1_v16 : Ref sig .tc := ⟨.hbm, 51, rfl⟩
abbrev main_call1_v17 : Ref sig .tc := ⟨.hbm, 52, rfl⟩
abbrev main_call1_v18 : Ref sig .tc := ⟨.hbm, 53, rfl⟩
abbrev main_call1_cst_5 : Ref sig .tc := ⟨.hbm, 54, rfl⟩
abbrev main_call1_v19 : Ref sig .tc := ⟨.hbm, 55, rfl⟩
abbrev main_call1_cst_6 : Ref sig .tc := ⟨.hbm, 56, rfl⟩
abbrev main_call1_call0_v0 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_cst_6 : Ref sig .tc := ⟨.hbm, 61, rfl⟩
abbrev main_cst_7 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_cst : Ref sig .tc := ⟨.hbm, 69, rfl⟩
abbrev main_call2_v6 : Ref sig .tc := ⟨.hbm, 70, rfl⟩
abbrev main_call2_cst_0 : Ref sig .tc := ⟨.hbm, 71, rfl⟩
abbrev main_call2_v7 : Ref sig .tc := ⟨.hbm, 72, rfl⟩
abbrev main_call2_cst_1 : Ref sig .tc := ⟨.hbm, 73, rfl⟩
abbrev main_call2_v8 : Ref sig .tc := ⟨.hbm, 74, rfl⟩
abbrev main_call2_cst_2 : Ref sig .tc := ⟨.hbm, 75, rfl⟩
abbrev main_call2_v9 : Ref sig .tc := ⟨.hbm, 76, rfl⟩
abbrev main_call2_v10 : Ref sig .tc := ⟨.hbm, 77, rfl⟩
abbrev main_call2_cst_3 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_cst_4 : Ref sig .tc := ⟨.hbm, 82, rfl⟩
abbrev main_call2_v14 : Ref sig .tc := ⟨.hbm, 83, rfl⟩
abbrev main_call2_v15 : Ref sig .tc := ⟨.hbm, 84, rfl⟩
abbrev main_call2_v16 : Ref sig .tc := ⟨.hbm, 85, rfl⟩
abbrev main_call2_v17 : Ref sig .tc := ⟨.hbm, 86, rfl⟩
abbrev main_call2_v18 : Ref sig .tc := ⟨.hbm, 87, rfl⟩
abbrev main_call2_cst_5 : Ref sig .tc := ⟨.hbm, 88, rfl⟩
abbrev main_call2_v19 : Ref sig .tc := ⟨.hbm, 89, rfl⟩
abbrev main_call2_cst_6 : Ref sig .tc := ⟨.hbm, 90, rfl⟩
abbrev main_call2_call0_v0 : Ref sig .tc := ⟨.hbm, 91, rfl⟩
abbrev main_v19 : Ref sig .tc := ⟨.hbm, 92, rfl⟩
abbrev main_v20 : Ref sig .tc := ⟨.hbm, 93, rfl⟩
abbrev main_v21 : Ref sig .tc := ⟨.hbm, 94, rfl⟩
abbrev main_cst_8 : Ref sig .tc := ⟨.hbm, 95, rfl⟩
abbrev main_cst_9 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_cst : Ref sig .tc := ⟨.hbm, 103, rfl⟩
abbrev main_call3_v6 : Ref sig .tc := ⟨.hbm, 104, rfl⟩
abbrev main_call3_cst_0 : Ref sig .tc := ⟨.hbm, 105, rfl⟩
abbrev main_call3_v7 : Ref sig .tc := ⟨.hbm, 106, rfl⟩
abbrev main_call3_cst_1 : Ref sig .tc := ⟨.hbm, 107, rfl⟩
abbrev main_call3_v8 : Ref sig .tc := ⟨.hbm, 108, rfl⟩
abbrev main_call3_cst_2 : Ref sig .tc := ⟨.hbm, 109, rfl⟩
abbrev main_call3_v9 : Ref sig .tc := ⟨.hbm, 110, rfl⟩
abbrev main_call3_v10 : Ref sig .tc := ⟨.hbm, 111, rfl⟩
abbrev main_call3_cst_3 : Ref sig .tc := ⟨.hbm, 112, rfl⟩
abbrev main_call3_v11 : Ref sig .tc := ⟨.hbm, 113, rfl⟩
abbrev main_call3_v12 : Ref sig .tc := ⟨.hbm, 114, rfl⟩
abbrev main_call3_v13 : Ref sig .tc := ⟨.hbm, 115, rfl⟩
abbrev main_call3_cst_4 : Ref sig .tc := ⟨.hbm, 116, rfl⟩
abbrev main_call3_v14 : Ref sig .tc := ⟨.hbm, 117, rfl⟩
abbrev main_call3_v15 : Ref sig .tc := ⟨.hbm, 118, rfl⟩
abbrev main_call3_v16 : Ref sig .tc := ⟨.hbm, 119, rfl⟩
abbrev main_call3_v17 : Ref sig .tc := ⟨.hbm, 120, rfl⟩
abbrev main_call3_v18 : Ref sig .tc := ⟨.hbm, 121, rfl⟩
abbrev main_call3_cst_5 : Ref sig .tc := ⟨.hbm, 122, rfl⟩
abbrev main_call3_v19 : Ref sig .tc := ⟨.hbm, 123, rfl⟩
abbrev main_call3_cst_6 : Ref sig .tc := ⟨.hbm, 124, rfl⟩
abbrev main_call3_call0_v0 : Ref sig .tc := ⟨.hbm, 125, rfl⟩
abbrev main_v22 : Ref sig .tc := ⟨.hbm, 126, rfl⟩
abbrev main_v23 : Ref sig .tc := ⟨.hbm, 127, rfl⟩
abbrev main_v24 : Ref sig .tc := ⟨.hbm, 128, rfl⟩
abbrev main_cst_10 : Ref sig .tc := ⟨.hbm, 129, rfl⟩
abbrev main_cst_11 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_cst : Ref sig .tc := ⟨.hbm, 137, rfl⟩
abbrev main_call4_v6 : Ref sig .tc := ⟨.hbm, 138, rfl⟩
abbrev main_call4_cst_0 : Ref sig .tc := ⟨.hbm, 139, rfl⟩
abbrev main_call4_v7 : Ref sig .tc := ⟨.hbm, 140, rfl⟩
abbrev main_call4_cst_1 : Ref sig .tc := ⟨.hbm, 141, rfl⟩
abbrev main_call4_v8 : Ref sig .tc := ⟨.hbm, 142, rfl⟩
abbrev main_call4_cst_2 : Ref sig .tc := ⟨.hbm, 143, rfl⟩
abbrev main_call4_v9 : Ref sig .tc := ⟨.hbm, 144, rfl⟩
abbrev main_call4_v10 : Ref sig .tc := ⟨.hbm, 145, rfl⟩
abbrev main_call4_cst_3 : Ref sig .tc := ⟨.hbm, 146, rfl⟩
abbrev main_call4_v11 : Ref sig .tc := ⟨.hbm, 147, rfl⟩
abbrev main_call4_v12 : Ref sig .tc := ⟨.hbm, 148, rfl⟩
abbrev main_call4_v13 : Ref sig .tc := ⟨.hbm, 149, rfl⟩
abbrev main_call4_cst_4 : Ref sig .tc := ⟨.hbm, 150, rfl⟩
abbrev main_call4_v14 : Ref sig .tc := ⟨.hbm, 151, rfl⟩
abbrev main_call4_v15 : Ref sig .tc := ⟨.hbm, 152, rfl⟩
abbrev main_call4_v16 : Ref sig .tc := ⟨.hbm, 153, rfl⟩
abbrev main_call4_v17 : Ref sig .tc := ⟨.hbm, 154, rfl⟩
abbrev main_call4_v18 : Ref sig .tc := ⟨.hbm, 155, rfl⟩
abbrev main_call4_cst_5 : Ref sig .tc := ⟨.hbm, 156, rfl⟩
abbrev main_call4_v19 : Ref sig .tc := ⟨.hbm, 157, rfl⟩
abbrev main_call4_cst_6 : Ref sig .tc := ⟨.hbm, 158, rfl⟩
abbrev main_call4_call0_v0 : Ref sig .tc := ⟨.hbm, 159, rfl⟩
abbrev main_v25 : Ref sig .tc := ⟨.hbm, 160, rfl⟩
abbrev main_v26 : Ref sig .tc := ⟨.hbm, 161, rfl⟩
abbrev main_v27 : Ref sig .tc := ⟨.hbm, 162, rfl⟩
abbrev main_cst_12 : Ref sig .tc := ⟨.hbm, 163, rfl⟩
abbrev main_cst_13 : Ref sig .tc := ⟨.hbm, 164, rfl⟩
abbrev main_call5_v0 : Ref sig .tc := ⟨.hbm, 165, rfl⟩
abbrev main_call5_v1 : Ref sig .tc := ⟨.hbm, 166, rfl⟩
abbrev main_call5_v2 : Ref sig .tc := ⟨.hbm, 167, rfl⟩
abbrev main_call5_v3 : Ref sig .tc := ⟨.hbm, 168, rfl⟩
abbrev main_call5_v4 : Ref sig .tc := ⟨.hbm, 169, rfl⟩
abbrev main_call5_v5 : Ref sig .tc := ⟨.hbm, 170, rfl⟩
abbrev main_call5_cst : Ref sig .tc := ⟨.hbm, 171, rfl⟩
abbrev main_call5_v6 : Ref sig .tc := ⟨.hbm, 172, rfl⟩
abbrev main_call5_cst_0 : Ref sig .tc := ⟨.hbm, 173, rfl⟩
abbrev main_call5_v7 : Ref sig .tc := ⟨.hbm, 174, rfl⟩
abbrev main_call5_cst_1 : Ref sig .tc := ⟨.hbm, 175, rfl⟩
abbrev main_call5_v8 : Ref sig .tc := ⟨.hbm, 176, rfl⟩
abbrev main_call5_cst_2 : Ref sig .tc := ⟨.hbm, 177, rfl⟩
abbrev main_call5_v9 : Ref sig .tc := ⟨.hbm, 178, rfl⟩
abbrev main_call5_v10 : Ref sig .tc := ⟨.hbm, 179, rfl⟩
abbrev main_call5_cst_3 : Ref sig .tc := ⟨.hbm, 180, rfl⟩
abbrev main_call5_v11 : Ref sig .tc := ⟨.hbm, 181, rfl⟩
abbrev main_call5_v12 : Ref sig .tc := ⟨.hbm, 182, rfl⟩
abbrev main_call5_v13 : Ref sig .tc := ⟨.hbm, 183, rfl⟩
abbrev main_call5_cst_4 : Ref sig .tc := ⟨.hbm, 184, rfl⟩
abbrev main_call5_v14 : Ref sig .tc := ⟨.hbm, 185, rfl⟩
abbrev main_call5_v15 : Ref sig .tc := ⟨.hbm, 186, rfl⟩
abbrev main_call5_v16 : Ref sig .tc := ⟨.hbm, 187, rfl⟩
abbrev main_call5_v17 : Ref sig .tc := ⟨.hbm, 188, rfl⟩
abbrev main_call5_v18 : Ref sig .tc := ⟨.hbm, 189, rfl⟩
abbrev main_call5_cst_5 : Ref sig .tc := ⟨.hbm, 190, rfl⟩
abbrev main_call5_v19 : Ref sig .tc := ⟨.hbm, 191, rfl⟩
abbrev main_call5_cst_6 : Ref sig .tc := ⟨.hbm, 192, rfl⟩
abbrev main_call5_call0_v0 : Ref sig .tc := ⟨.hbm, 193, rfl⟩
abbrev main_v28 : Ref sig .tc := ⟨.hbm, 194, rfl⟩
abbrev main_v29 : Ref sig .tc := ⟨.hbm, 195, rfl⟩
abbrev main_v30 : Ref sig .tc := ⟨.hbm, 196, rfl⟩
abbrev main_cst_14 : Ref sig .tc := ⟨.hbm, 197, rfl⟩
abbrev main_cst_15 : Ref sig .tc := ⟨.hbm, 198, rfl⟩
abbrev main_call6_v0 : Ref sig .tc := ⟨.hbm, 199, rfl⟩
abbrev main_call6_v1 : Ref sig .tc := ⟨.hbm, 200, rfl⟩
abbrev main_call6_v2 : Ref sig .tc := ⟨.hbm, 201, rfl⟩
abbrev main_call6_v3 : Ref sig .tc := ⟨.hbm, 202, rfl⟩
abbrev main_call6_v4 : Ref sig .tc := ⟨.hbm, 203, rfl⟩
abbrev main_call6_v5 : Ref sig .tc := ⟨.hbm, 204, rfl⟩
abbrev main_call6_cst : Ref sig .tc := ⟨.hbm, 205, rfl⟩
abbrev main_call6_v6 : Ref sig .tc := ⟨.hbm, 206, rfl⟩
abbrev main_call6_cst_0 : Ref sig .tc := ⟨.hbm, 207, rfl⟩
abbrev main_call6_v7 : Ref sig .tc := ⟨.hbm, 208, rfl⟩
abbrev main_call6_cst_1 : Ref sig .tc := ⟨.hbm, 209, rfl⟩
abbrev main_call6_v8 : Ref sig .tc := ⟨.hbm, 210, rfl⟩
abbrev main_call6_cst_2 : Ref sig .tc := ⟨.hbm, 211, rfl⟩
abbrev main_call6_v9 : Ref sig .tc := ⟨.hbm, 212, rfl⟩
abbrev main_call6_v10 : Ref sig .tc := ⟨.hbm, 213, rfl⟩
abbrev main_call6_cst_3 : Ref sig .tc := ⟨.hbm, 214, rfl⟩
abbrev main_call6_v11 : Ref sig .tc := ⟨.hbm, 215, rfl⟩
abbrev main_call6_v12 : Ref sig .tc := ⟨.hbm, 216, rfl⟩
abbrev main_call6_v13 : Ref sig .tc := ⟨.hbm, 217, rfl⟩
abbrev main_call6_cst_4 : Ref sig .tc := ⟨.hbm, 218, rfl⟩
abbrev main_call6_v14 : Ref sig .tc := ⟨.hbm, 219, rfl⟩
abbrev main_call6_v15 : Ref sig .tc := ⟨.hbm, 220, rfl⟩
abbrev main_call6_v16 : Ref sig .tc := ⟨.hbm, 221, rfl⟩
abbrev main_call6_v17 : Ref sig .tc := ⟨.hbm, 222, rfl⟩
abbrev main_call6_v18 : Ref sig .tc := ⟨.hbm, 223, rfl⟩
abbrev main_call6_cst_5 : Ref sig .tc := ⟨.hbm, 224, rfl⟩
abbrev main_call6_v19 : Ref sig .tc := ⟨.hbm, 225, rfl⟩
abbrev main_call6_cst_6 : Ref sig .tc := ⟨.hbm, 226, rfl⟩
abbrev main_call6_call0_v0 : Ref sig .tc := ⟨.hbm, 227, rfl⟩
abbrev main_v31 : Ref sig .tc := ⟨.hbm, 228, rfl⟩
abbrev main_v32 : Ref sig .tc := ⟨.hbm, 229, rfl⟩
abbrev main_v33 : Ref sig .tc := ⟨.hbm, 230, rfl⟩
abbrev main_cst_16 : Ref sig .tc := ⟨.hbm, 231, rfl⟩
abbrev main_cst_17 : Ref sig .tc := ⟨.hbm, 232, rfl⟩
abbrev main_call7_v0 : Ref sig .tc := ⟨.hbm, 233, rfl⟩
abbrev main_call7_v1 : Ref sig .tc := ⟨.hbm, 234, rfl⟩
abbrev main_call7_v2 : Ref sig .tc := ⟨.hbm, 235, rfl⟩
abbrev main_call7_v3 : Ref sig .tc := ⟨.hbm, 236, rfl⟩
abbrev main_call7_v4 : Ref sig .tc := ⟨.hbm, 237, rfl⟩
abbrev main_call7_v5 : Ref sig .tc := ⟨.hbm, 238, rfl⟩
abbrev main_call7_cst : Ref sig .tc := ⟨.hbm, 239, rfl⟩
abbrev main_call7_v6 : Ref sig .tc := ⟨.hbm, 240, rfl⟩
abbrev main_call7_cst_0 : Ref sig .tc := ⟨.hbm, 241, rfl⟩
abbrev main_call7_v7 : Ref sig .tc := ⟨.hbm, 242, rfl⟩
abbrev main_call7_cst_1 : Ref sig .tc := ⟨.hbm, 243, rfl⟩
abbrev main_call7_v8 : Ref sig .tc := ⟨.hbm, 244, rfl⟩
abbrev main_call7_cst_2 : Ref sig .tc := ⟨.hbm, 245, rfl⟩
abbrev main_call7_v9 : Ref sig .tc := ⟨.hbm, 246, rfl⟩
abbrev main_call7_v10 : Ref sig .tc := ⟨.hbm, 247, rfl⟩
abbrev main_call7_cst_3 : Ref sig .tc := ⟨.hbm, 248, rfl⟩
abbrev main_call7_v11 : Ref sig .tc := ⟨.hbm, 249, rfl⟩
abbrev main_call7_v12 : Ref sig .tc := ⟨.hbm, 250, rfl⟩
abbrev main_call7_v13 : Ref sig .tc := ⟨.hbm, 251, rfl⟩
abbrev main_call7_cst_4 : Ref sig .tc := ⟨.hbm, 252, rfl⟩
abbrev main_call7_v14 : Ref sig .tc := ⟨.hbm, 253, rfl⟩
abbrev main_call7_v15 : Ref sig .tc := ⟨.hbm, 254, rfl⟩
abbrev main_call7_v16 : Ref sig .tc := ⟨.hbm, 255, rfl⟩
abbrev main_call7_v17 : Ref sig .tc := ⟨.hbm, 256, rfl⟩
abbrev main_call7_v18 : Ref sig .tc := ⟨.hbm, 257, rfl⟩
abbrev main_call7_cst_5 : Ref sig .tc := ⟨.hbm, 258, rfl⟩
abbrev main_call7_v19 : Ref sig .tc := ⟨.hbm, 259, rfl⟩
abbrev main_call7_cst_6 : Ref sig .tc := ⟨.hbm, 260, rfl⟩
abbrev main_call7_call0_v0 : Ref sig .tc := ⟨.hbm, 261, rfl⟩
abbrev main_v34 : Ref sig .tc := ⟨.hbm, 262, rfl⟩
abbrev main_v35 : Ref sig .tc := ⟨.hbm, 263, rfl⟩
abbrev main_v36 : Ref sig .tc := ⟨.hbm, 264, rfl⟩
abbrev main_cst_18 : Ref sig .tc := ⟨.hbm, 265, rfl⟩
abbrev main_cst_19 : Ref sig .tc := ⟨.hbm, 266, rfl⟩
abbrev main_call8_v0 : Ref sig .tc := ⟨.hbm, 267, rfl⟩
abbrev main_call8_v1 : Ref sig .tc := ⟨.hbm, 268, rfl⟩
abbrev main_call8_v2 : Ref sig .tc := ⟨.hbm, 269, rfl⟩
abbrev main_call8_v3 : Ref sig .tc := ⟨.hbm, 270, rfl⟩
abbrev main_call8_v4 : Ref sig .tc := ⟨.hbm, 271, rfl⟩
abbrev main_call8_v5 : Ref sig .tc := ⟨.hbm, 272, rfl⟩
abbrev main_call8_cst : Ref sig .tc := ⟨.hbm, 273, rfl⟩
abbrev main_call8_v6 : Ref sig .tc := ⟨.hbm, 274, rfl⟩
abbrev main_call8_cst_0 : Ref sig .tc := ⟨.hbm, 275, rfl⟩
abbrev main_call8_v7 : Ref sig .tc := ⟨.hbm, 276, rfl⟩
abbrev main_call8_cst_1 : Ref sig .tc := ⟨.hbm, 277, rfl⟩
abbrev main_call8_v8 : Ref sig .tc := ⟨.hbm, 278, rfl⟩
abbrev main_call8_cst_2 : Ref sig .tc := ⟨.hbm, 279, rfl⟩
abbrev main_call8_v9 : Ref sig .tc := ⟨.hbm, 280, rfl⟩
abbrev main_call8_v10 : Ref sig .tc := ⟨.hbm, 281, rfl⟩
abbrev main_call8_cst_3 : Ref sig .tc := ⟨.hbm, 282, rfl⟩
abbrev main_call8_v11 : Ref sig .tc := ⟨.hbm, 283, rfl⟩
abbrev main_call8_v12 : Ref sig .tc := ⟨.hbm, 284, rfl⟩
abbrev main_call8_v13 : Ref sig .tc := ⟨.hbm, 285, rfl⟩
abbrev main_call8_cst_4 : Ref sig .tc := ⟨.hbm, 286, rfl⟩
abbrev main_call8_v14 : Ref sig .tc := ⟨.hbm, 287, rfl⟩
abbrev main_call8_v15 : Ref sig .tc := ⟨.hbm, 288, rfl⟩
abbrev main_call8_v16 : Ref sig .tc := ⟨.hbm, 289, rfl⟩
abbrev main_call8_v17 : Ref sig .tc := ⟨.hbm, 290, rfl⟩
abbrev main_call8_v18 : Ref sig .tc := ⟨.hbm, 291, rfl⟩
abbrev main_call8_cst_5 : Ref sig .tc := ⟨.hbm, 292, rfl⟩
abbrev main_call8_v19 : Ref sig .tc := ⟨.hbm, 293, rfl⟩
abbrev main_call8_cst_6 : Ref sig .tc := ⟨.hbm, 294, rfl⟩
abbrev main_call8_call0_v0 : Ref sig .tc := ⟨.hbm, 295, rfl⟩
abbrev main_v37 : Ref sig .tc := ⟨.hbm, 296, rfl⟩
abbrev main_v38 : Ref sig .tc := ⟨.hbm, 297, rfl⟩
abbrev main_v39 : Ref sig .tc := ⟨.hbm, 298, rfl⟩
abbrev main_cst_20 : Ref sig .tc := ⟨.hbm, 299, rfl⟩
abbrev main_cst_21 : Ref sig .tc := ⟨.hbm, 300, rfl⟩
abbrev main_call9_v0 : Ref sig .tc := ⟨.hbm, 301, rfl⟩
abbrev main_call9_v1 : Ref sig .tc := ⟨.hbm, 302, rfl⟩
abbrev main_call9_v2 : Ref sig .tc := ⟨.hbm, 303, rfl⟩
abbrev main_call9_v3 : Ref sig .tc := ⟨.hbm, 304, rfl⟩
abbrev main_call9_v4 : Ref sig .tc := ⟨.hbm, 305, rfl⟩
abbrev main_call9_v5 : Ref sig .tc := ⟨.hbm, 306, rfl⟩
abbrev main_call9_cst : Ref sig .tc := ⟨.hbm, 307, rfl⟩
abbrev main_call9_v6 : Ref sig .tc := ⟨.hbm, 308, rfl⟩
abbrev main_call9_cst_0 : Ref sig .tc := ⟨.hbm, 309, rfl⟩
abbrev main_call9_v7 : Ref sig .tc := ⟨.hbm, 310, rfl⟩
abbrev main_call9_cst_1 : Ref sig .tc := ⟨.hbm, 311, rfl⟩
abbrev main_call9_v8 : Ref sig .tc := ⟨.hbm, 312, rfl⟩
abbrev main_call9_cst_2 : Ref sig .tc := ⟨.hbm, 313, rfl⟩
abbrev main_call9_v9 : Ref sig .tc := ⟨.hbm, 314, rfl⟩
abbrev main_call9_v10 : Ref sig .tc := ⟨.hbm, 315, rfl⟩
abbrev main_call9_cst_3 : Ref sig .tc := ⟨.hbm, 316, rfl⟩
abbrev main_call9_v11 : Ref sig .tc := ⟨.hbm, 317, rfl⟩
abbrev main_call9_v12 : Ref sig .tc := ⟨.hbm, 318, rfl⟩
abbrev main_call9_v13 : Ref sig .tc := ⟨.hbm, 319, rfl⟩
abbrev main_call9_cst_4 : Ref sig .tc := ⟨.hbm, 320, rfl⟩
abbrev main_call9_v14 : Ref sig .tc := ⟨.hbm, 321, rfl⟩
abbrev main_call9_v15 : Ref sig .tc := ⟨.hbm, 322, rfl⟩
abbrev main_call9_v16 : Ref sig .tc := ⟨.hbm, 323, rfl⟩
abbrev main_call9_v17 : Ref sig .tc := ⟨.hbm, 324, rfl⟩
abbrev main_call9_v18 : Ref sig .tc := ⟨.hbm, 325, rfl⟩
abbrev main_call9_cst_5 : Ref sig .tc := ⟨.hbm, 326, rfl⟩
abbrev main_call9_v19 : Ref sig .tc := ⟨.hbm, 327, rfl⟩
abbrev main_call9_cst_6 : Ref sig .tc := ⟨.hbm, 328, rfl⟩
abbrev main_call9_call0_v0 : Ref sig .tc := ⟨.hbm, 329, rfl⟩
abbrev main_v40 : Ref sig .tc := ⟨.hbm, 330, rfl⟩
abbrev main_v41 : Ref sig .tc := ⟨.hbm, 331, rfl⟩
abbrev main_v42 : Ref sig .tc := ⟨.hbm, 332, rfl⟩
abbrev main_cst_22 : Ref sig .tc := ⟨.hbm, 333, rfl⟩
abbrev main_cst_23 : Ref sig .tc := ⟨.hbm, 334, rfl⟩
abbrev main_call10_v0 : Ref sig .tc := ⟨.hbm, 335, rfl⟩
abbrev main_call10_v1 : Ref sig .tc := ⟨.hbm, 336, rfl⟩
abbrev main_call10_v2 : Ref sig .tc := ⟨.hbm, 337, rfl⟩
abbrev main_call10_v3 : Ref sig .tc := ⟨.hbm, 338, rfl⟩
abbrev main_call10_v4 : Ref sig .tc := ⟨.hbm, 339, rfl⟩
abbrev main_call10_v5 : Ref sig .tc := ⟨.hbm, 340, rfl⟩
abbrev main_call10_cst : Ref sig .tc := ⟨.hbm, 341, rfl⟩
abbrev main_call10_v6 : Ref sig .tc := ⟨.hbm, 342, rfl⟩
abbrev main_call10_cst_0 : Ref sig .tc := ⟨.hbm, 343, rfl⟩
abbrev main_call10_v7 : Ref sig .tc := ⟨.hbm, 344, rfl⟩
abbrev main_call10_cst_1 : Ref sig .tc := ⟨.hbm, 345, rfl⟩
abbrev main_call10_v8 : Ref sig .tc := ⟨.hbm, 346, rfl⟩
abbrev main_call10_cst_2 : Ref sig .tc := ⟨.hbm, 347, rfl⟩
abbrev main_call10_v9 : Ref sig .tc := ⟨.hbm, 348, rfl⟩
abbrev main_call10_v10 : Ref sig .tc := ⟨.hbm, 349, rfl⟩
abbrev main_call10_cst_3 : Ref sig .tc := ⟨.hbm, 350, rfl⟩
abbrev main_call10_v11 : Ref sig .tc := ⟨.hbm, 351, rfl⟩
abbrev main_call10_v12 : Ref sig .tc := ⟨.hbm, 352, rfl⟩
abbrev main_call10_v13 : Ref sig .tc := ⟨.hbm, 353, rfl⟩
abbrev main_call10_cst_4 : Ref sig .tc := ⟨.hbm, 354, rfl⟩
abbrev main_call10_v14 : Ref sig .tc := ⟨.hbm, 355, rfl⟩
abbrev main_call10_v15 : Ref sig .tc := ⟨.hbm, 356, rfl⟩
abbrev main_call10_v16 : Ref sig .tc := ⟨.hbm, 357, rfl⟩
abbrev main_call10_v17 : Ref sig .tc := ⟨.hbm, 358, rfl⟩
abbrev main_call10_v18 : Ref sig .tc := ⟨.hbm, 359, rfl⟩
abbrev main_call10_cst_5 : Ref sig .tc := ⟨.hbm, 360, rfl⟩
abbrev main_call10_v19 : Ref sig .tc := ⟨.hbm, 361, rfl⟩
abbrev main_call10_cst_6 : Ref sig .tc := ⟨.hbm, 362, rfl⟩
abbrev main_call10_call0_v0 : Ref sig .tc := ⟨.hbm, 363, rfl⟩
abbrev main_v43 : Ref sig .tc := ⟨.hbm, 364, rfl⟩
abbrev main_v44 : Ref sig .tc := ⟨.hbm, 365, rfl⟩
abbrev main_v45 : Ref sig .tc := ⟨.hbm, 366, rfl⟩
abbrev main_cst_24 : Ref sig .tc := ⟨.hbm, 367, rfl⟩
abbrev main_cst_25 : Ref sig .tc := ⟨.hbm, 368, rfl⟩
abbrev main_call11_v0 : Ref sig .tc := ⟨.hbm, 369, rfl⟩
abbrev main_call11_v1 : Ref sig .tc := ⟨.hbm, 370, rfl⟩
abbrev main_call11_v2 : Ref sig .tc := ⟨.hbm, 371, rfl⟩
abbrev main_call11_v3 : Ref sig .tc := ⟨.hbm, 372, rfl⟩
abbrev main_call11_v4 : Ref sig .tc := ⟨.hbm, 373, rfl⟩
abbrev main_call11_v5 : Ref sig .tc := ⟨.hbm, 374, rfl⟩
abbrev main_call11_cst : Ref sig .tc := ⟨.hbm, 375, rfl⟩
abbrev main_call11_v6 : Ref sig .tc := ⟨.hbm, 376, rfl⟩
abbrev main_call11_cst_0 : Ref sig .tc := ⟨.hbm, 377, rfl⟩
abbrev main_call11_v7 : Ref sig .tc := ⟨.hbm, 378, rfl⟩
abbrev main_call11_cst_1 : Ref sig .tc := ⟨.hbm, 379, rfl⟩
abbrev main_call11_v8 : Ref sig .tc := ⟨.hbm, 380, rfl⟩
abbrev main_call11_cst_2 : Ref sig .tc := ⟨.hbm, 381, rfl⟩
abbrev main_call11_v9 : Ref sig .tc := ⟨.hbm, 382, rfl⟩
abbrev main_call11_v10 : Ref sig .tc := ⟨.hbm, 383, rfl⟩
abbrev main_call11_cst_3 : Ref sig .tc := ⟨.hbm, 384, rfl⟩
abbrev main_call11_v11 : Ref sig .tc := ⟨.hbm, 385, rfl⟩
abbrev main_call11_v12 : Ref sig .tc := ⟨.hbm, 386, rfl⟩
abbrev main_call11_v13 : Ref sig .tc := ⟨.hbm, 387, rfl⟩
abbrev main_call11_cst_4 : Ref sig .tc := ⟨.hbm, 388, rfl⟩
abbrev main_call11_v14 : Ref sig .tc := ⟨.hbm, 389, rfl⟩
abbrev main_call11_v15 : Ref sig .tc := ⟨.hbm, 390, rfl⟩
abbrev main_call11_v16 : Ref sig .tc := ⟨.hbm, 391, rfl⟩
abbrev main_call11_v17 : Ref sig .tc := ⟨.hbm, 392, rfl⟩
abbrev main_call11_v18 : Ref sig .tc := ⟨.hbm, 393, rfl⟩
abbrev main_call11_cst_5 : Ref sig .tc := ⟨.hbm, 394, rfl⟩
abbrev main_call11_v19 : Ref sig .tc := ⟨.hbm, 395, rfl⟩
abbrev main_call11_cst_6 : Ref sig .tc := ⟨.hbm, 396, rfl⟩
abbrev main_call11_call0_v0 : Ref sig .tc := ⟨.hbm, 397, rfl⟩
abbrev main_v46 : Ref sig .tc := ⟨.hbm, 398, rfl⟩
abbrev main_v47 : Ref sig .tc := ⟨.hbm, 399, rfl⟩
abbrev main_v48 : Ref sig .tc := ⟨.hbm, 400, rfl⟩
abbrev main_cst_26 : Ref sig .tc := ⟨.hbm, 401, rfl⟩
abbrev main_cst_27 : Ref sig .tc := ⟨.hbm, 402, rfl⟩
abbrev main_call12_v0 : Ref sig .tc := ⟨.hbm, 403, rfl⟩
abbrev main_call12_v1 : Ref sig .tc := ⟨.hbm, 404, rfl⟩
abbrev main_call12_v2 : Ref sig .tc := ⟨.hbm, 405, rfl⟩
abbrev main_call12_v3 : Ref sig .tc := ⟨.hbm, 406, rfl⟩
abbrev main_call12_v4 : Ref sig .tc := ⟨.hbm, 407, rfl⟩
abbrev main_call12_v5 : Ref sig .tc := ⟨.hbm, 408, rfl⟩
abbrev main_call12_cst : Ref sig .tc := ⟨.hbm, 409, rfl⟩
abbrev main_call12_v6 : Ref sig .tc := ⟨.hbm, 410, rfl⟩
abbrev main_call12_cst_0 : Ref sig .tc := ⟨.hbm, 411, rfl⟩
abbrev main_call12_v7 : Ref sig .tc := ⟨.hbm, 412, rfl⟩
abbrev main_call12_cst_1 : Ref sig .tc := ⟨.hbm, 413, rfl⟩
abbrev main_call12_v8 : Ref sig .tc := ⟨.hbm, 414, rfl⟩
abbrev main_call12_cst_2 : Ref sig .tc := ⟨.hbm, 415, rfl⟩
abbrev main_call12_v9 : Ref sig .tc := ⟨.hbm, 416, rfl⟩
abbrev main_call12_v10 : Ref sig .tc := ⟨.hbm, 417, rfl⟩
abbrev main_call12_cst_3 : Ref sig .tc := ⟨.hbm, 418, rfl⟩
abbrev main_call12_v11 : Ref sig .tc := ⟨.hbm, 419, rfl⟩
abbrev main_call12_v12 : Ref sig .tc := ⟨.hbm, 420, rfl⟩
abbrev main_call12_v13 : Ref sig .tc := ⟨.hbm, 421, rfl⟩
abbrev main_call12_cst_4 : Ref sig .tc := ⟨.hbm, 422, rfl⟩
abbrev main_call12_v14 : Ref sig .tc := ⟨.hbm, 423, rfl⟩
abbrev main_call12_v15 : Ref sig .tc := ⟨.hbm, 424, rfl⟩
abbrev main_call12_v16 : Ref sig .tc := ⟨.hbm, 425, rfl⟩
abbrev main_call12_v17 : Ref sig .tc := ⟨.hbm, 426, rfl⟩
abbrev main_call12_v18 : Ref sig .tc := ⟨.hbm, 427, rfl⟩
abbrev main_call12_cst_5 : Ref sig .tc := ⟨.hbm, 428, rfl⟩
abbrev main_call12_v19 : Ref sig .tc := ⟨.hbm, 429, rfl⟩
abbrev main_call12_cst_6 : Ref sig .tc := ⟨.hbm, 430, rfl⟩
abbrev main_call12_call0_v0 : Ref sig .tc := ⟨.hbm, 431, rfl⟩
abbrev main_v49 : Ref sig .tc := ⟨.hbm, 432, rfl⟩
abbrev main_v50 : Ref sig .tc := ⟨.hbm, 433, rfl⟩
abbrev main_v51 : Ref sig .tc := ⟨.hbm, 434, rfl⟩
abbrev main_cst_28 : Ref sig .tc := ⟨.hbm, 435, rfl⟩
abbrev main_cst_29 : Ref sig .tc := ⟨.hbm, 436, rfl⟩
abbrev main_call13_v0 : Ref sig .tc := ⟨.hbm, 437, rfl⟩
abbrev main_call13_v1 : Ref sig .tc := ⟨.hbm, 438, rfl⟩
abbrev main_call13_v2 : Ref sig .tc := ⟨.hbm, 439, rfl⟩
abbrev main_call13_v3 : Ref sig .tc := ⟨.hbm, 440, rfl⟩
abbrev main_call13_v4 : Ref sig .tc := ⟨.hbm, 441, rfl⟩
abbrev main_call13_v5 : Ref sig .tc := ⟨.hbm, 442, rfl⟩
abbrev main_call13_cst : Ref sig .tc := ⟨.hbm, 443, rfl⟩
abbrev main_call13_v6 : Ref sig .tc := ⟨.hbm, 444, rfl⟩
abbrev main_call13_cst_0 : Ref sig .tc := ⟨.hbm, 445, rfl⟩
abbrev main_call13_v7 : Ref sig .tc := ⟨.hbm, 446, rfl⟩
abbrev main_call13_cst_1 : Ref sig .tc := ⟨.hbm, 447, rfl⟩
abbrev main_call13_v8 : Ref sig .tc := ⟨.hbm, 448, rfl⟩
abbrev main_call13_cst_2 : Ref sig .tc := ⟨.hbm, 449, rfl⟩
abbrev main_call13_v9 : Ref sig .tc := ⟨.hbm, 450, rfl⟩
abbrev main_call13_v10 : Ref sig .tc := ⟨.hbm, 451, rfl⟩
abbrev main_call13_cst_3 : Ref sig .tc := ⟨.hbm, 452, rfl⟩
abbrev main_call13_v11 : Ref sig .tc := ⟨.hbm, 453, rfl⟩
abbrev main_call13_v12 : Ref sig .tc := ⟨.hbm, 454, rfl⟩
abbrev main_call13_v13 : Ref sig .tc := ⟨.hbm, 455, rfl⟩
abbrev main_call13_cst_4 : Ref sig .tc := ⟨.hbm, 456, rfl⟩
abbrev main_call13_v14 : Ref sig .tc := ⟨.hbm, 457, rfl⟩
abbrev main_call13_v15 : Ref sig .tc := ⟨.hbm, 458, rfl⟩
abbrev main_call13_v16 : Ref sig .tc := ⟨.hbm, 459, rfl⟩
abbrev main_call13_v17 : Ref sig .tc := ⟨.hbm, 460, rfl⟩
abbrev main_call13_v18 : Ref sig .tc := ⟨.hbm, 461, rfl⟩
abbrev main_call13_cst_5 : Ref sig .tc := ⟨.hbm, 462, rfl⟩
abbrev main_call13_v19 : Ref sig .tc := ⟨.hbm, 463, rfl⟩
abbrev main_call13_cst_6 : Ref sig .tc := ⟨.hbm, 464, rfl⟩
abbrev main_call13_call0_v0 : Ref sig .tc := ⟨.hbm, 465, rfl⟩
abbrev main_v52 : Ref sig .tc := ⟨.hbm, 466, rfl⟩
abbrev main_v53 : Ref sig .tc := ⟨.hbm, 467, rfl⟩
abbrev main_v54 : Ref sig .tc := ⟨.hbm, 468, rfl⟩
abbrev main_cst_30 : Ref sig .tc := ⟨.hbm, 469, rfl⟩
abbrev main_cst_31 : Ref sig .tc := ⟨.hbm, 470, rfl⟩
abbrev main_call14_v0 : Ref sig .tc := ⟨.hbm, 471, rfl⟩
abbrev main_call14_v1 : Ref sig .tc := ⟨.hbm, 472, rfl⟩
abbrev main_call14_v2 : Ref sig .tc := ⟨.hbm, 473, rfl⟩
abbrev main_call14_v3 : Ref sig .tc := ⟨.hbm, 474, rfl⟩
abbrev main_call14_v4 : Ref sig .tc := ⟨.hbm, 475, rfl⟩
abbrev main_call14_v5 : Ref sig .tc := ⟨.hbm, 476, rfl⟩
abbrev main_call14_cst : Ref sig .tc := ⟨.hbm, 477, rfl⟩
abbrev main_call14_v6 : Ref sig .tc := ⟨.hbm, 478, rfl⟩
abbrev main_call14_cst_0 : Ref sig .tc := ⟨.hbm, 479, rfl⟩
abbrev main_call14_v7 : Ref sig .tc := ⟨.hbm, 480, rfl⟩
abbrev main_call14_cst_1 : Ref sig .tc := ⟨.hbm, 481, rfl⟩
abbrev main_call14_v8 : Ref sig .tc := ⟨.hbm, 482, rfl⟩
abbrev main_call14_cst_2 : Ref sig .tc := ⟨.hbm, 483, rfl⟩
abbrev main_call14_v9 : Ref sig .tc := ⟨.hbm, 484, rfl⟩
abbrev main_call14_v10 : Ref sig .tc := ⟨.hbm, 485, rfl⟩
abbrev main_call14_cst_3 : Ref sig .tc := ⟨.hbm, 486, rfl⟩
abbrev main_call14_v11 : Ref sig .tc := ⟨.hbm, 487, rfl⟩
abbrev main_call14_v12 : Ref sig .tc := ⟨.hbm, 488, rfl⟩
abbrev main_call14_v13 : Ref sig .tc := ⟨.hbm, 489, rfl⟩
abbrev main_call14_cst_4 : Ref sig .tc := ⟨.hbm, 490, rfl⟩
abbrev main_call14_v14 : Ref sig .tc := ⟨.hbm, 491, rfl⟩
abbrev main_call14_v15 : Ref sig .tc := ⟨.hbm, 492, rfl⟩
abbrev main_call14_v16 : Ref sig .tc := ⟨.hbm, 493, rfl⟩
abbrev main_call14_v17 : Ref sig .tc := ⟨.hbm, 494, rfl⟩
abbrev main_call14_v18 : Ref sig .tc := ⟨.hbm, 495, rfl⟩
abbrev main_call14_cst_5 : Ref sig .tc := ⟨.hbm, 496, rfl⟩
abbrev main_call14_v19 : Ref sig .tc := ⟨.hbm, 497, rfl⟩
abbrev main_call14_cst_6 : Ref sig .tc := ⟨.hbm, 498, rfl⟩
abbrev main_call14_call0_v0 : Ref sig .tc := ⟨.hbm, 499, rfl⟩
abbrev main_v55 : Ref sig .tc := ⟨.hbm, 500, rfl⟩
abbrev main_v56 : Ref sig .tc := ⟨.hbm, 501, rfl⟩
abbrev main_v57 : Ref sig .tc := ⟨.hbm, 502, rfl⟩
abbrev main_cst_32 : Ref sig .tc := ⟨.hbm, 503, rfl⟩
abbrev main_cst_33 : Ref sig .tc := ⟨.hbm, 504, rfl⟩
abbrev main_call15_v0 : Ref sig .tc := ⟨.hbm, 505, rfl⟩
abbrev main_call15_v1 : Ref sig .tc := ⟨.hbm, 506, rfl⟩
abbrev main_call15_v2 : Ref sig .tc := ⟨.hbm, 507, rfl⟩
abbrev main_call15_v3 : Ref sig .tc := ⟨.hbm, 508, rfl⟩
abbrev main_call15_v4 : Ref sig .tc := ⟨.hbm, 509, rfl⟩
abbrev main_call15_v5 : Ref sig .tc := ⟨.hbm, 510, rfl⟩
abbrev main_call15_cst : Ref sig .tc := ⟨.hbm, 511, rfl⟩
abbrev main_call15_v6 : Ref sig .tc := ⟨.hbm, 512, rfl⟩
abbrev main_call15_cst_0 : Ref sig .tc := ⟨.hbm, 513, rfl⟩
abbrev main_call15_v7 : Ref sig .tc := ⟨.hbm, 514, rfl⟩
abbrev main_call15_cst_1 : Ref sig .tc := ⟨.hbm, 515, rfl⟩
abbrev main_call15_v8 : Ref sig .tc := ⟨.hbm, 516, rfl⟩
abbrev main_call15_cst_2 : Ref sig .tc := ⟨.hbm, 517, rfl⟩
abbrev main_call15_v9 : Ref sig .tc := ⟨.hbm, 518, rfl⟩
abbrev main_call15_v10 : Ref sig .tc := ⟨.hbm, 519, rfl⟩
abbrev main_call15_cst_3 : Ref sig .tc := ⟨.hbm, 520, rfl⟩
abbrev main_call15_v11 : Ref sig .tc := ⟨.hbm, 521, rfl⟩
abbrev main_call15_v12 : Ref sig .tc := ⟨.hbm, 522, rfl⟩
abbrev main_call15_v13 : Ref sig .tc := ⟨.hbm, 523, rfl⟩
abbrev main_call15_cst_4 : Ref sig .tc := ⟨.hbm, 524, rfl⟩
abbrev main_call15_v14 : Ref sig .tc := ⟨.hbm, 525, rfl⟩
abbrev main_call15_v15 : Ref sig .tc := ⟨.hbm, 526, rfl⟩
abbrev main_call15_v16 : Ref sig .tc := ⟨.hbm, 527, rfl⟩
abbrev main_call15_v17 : Ref sig .tc := ⟨.hbm, 528, rfl⟩
abbrev main_call15_v18 : Ref sig .tc := ⟨.hbm, 529, rfl⟩
abbrev main_call15_cst_5 : Ref sig .tc := ⟨.hbm, 530, rfl⟩
abbrev main_call15_v19 : Ref sig .tc := ⟨.hbm, 531, rfl⟩
abbrev main_call15_cst_6 : Ref sig .tc := ⟨.hbm, 532, rfl⟩
abbrev main_call15_call0_v0 : Ref sig .tc := ⟨.hbm, 533, rfl⟩
abbrev main_v58 : Ref sig .tc := ⟨.hbm, 534, rfl⟩
abbrev main_v59 : Ref sig .tc := ⟨.hbm, 535, rfl⟩
abbrev main_v60 : Ref sig .tc := ⟨.hbm, 536, rfl⟩
abbrev main_cst_34 : Ref sig .tc := ⟨.hbm, 537, rfl⟩
abbrev main_cst_35 : Ref sig .tc := ⟨.hbm, 538, rfl⟩
abbrev main_call16_v0 : Ref sig .tc := ⟨.hbm, 539, rfl⟩
abbrev main_call16_v1 : Ref sig .tc := ⟨.hbm, 540, rfl⟩
abbrev main_call16_v2 : Ref sig .tc := ⟨.hbm, 541, rfl⟩
abbrev main_call16_v3 : Ref sig .tc := ⟨.hbm, 542, rfl⟩
abbrev main_call16_v4 : Ref sig .tc := ⟨.hbm, 543, rfl⟩
abbrev main_call16_v5 : Ref sig .tc := ⟨.hbm, 544, rfl⟩
abbrev main_call16_cst : Ref sig .tc := ⟨.hbm, 545, rfl⟩
abbrev main_call16_v6 : Ref sig .tc := ⟨.hbm, 546, rfl⟩
abbrev main_call16_cst_0 : Ref sig .tc := ⟨.hbm, 547, rfl⟩
abbrev main_call16_v7 : Ref sig .tc := ⟨.hbm, 548, rfl⟩
abbrev main_call16_cst_1 : Ref sig .tc := ⟨.hbm, 549, rfl⟩
abbrev main_call16_v8 : Ref sig .tc := ⟨.hbm, 550, rfl⟩
abbrev main_call16_cst_2 : Ref sig .tc := ⟨.hbm, 551, rfl⟩
abbrev main_call16_v9 : Ref sig .tc := ⟨.hbm, 552, rfl⟩
abbrev main_call16_v10 : Ref sig .tc := ⟨.hbm, 553, rfl⟩
abbrev main_call16_cst_3 : Ref sig .tc := ⟨.hbm, 554, rfl⟩
abbrev main_call16_v11 : Ref sig .tc := ⟨.hbm, 555, rfl⟩
abbrev main_call16_v12 : Ref sig .tc := ⟨.hbm, 556, rfl⟩
abbrev main_call16_v13 : Ref sig .tc := ⟨.hbm, 557, rfl⟩
abbrev main_call16_cst_4 : Ref sig .tc := ⟨.hbm, 558, rfl⟩
abbrev main_call16_v14 : Ref sig .tc := ⟨.hbm, 559, rfl⟩
abbrev main_call16_v15 : Ref sig .tc := ⟨.hbm, 560, rfl⟩
abbrev main_call16_v16 : Ref sig .tc := ⟨.hbm, 561, rfl⟩
abbrev main_call16_v17 : Ref sig .tc := ⟨.hbm, 562, rfl⟩
abbrev main_call16_v18 : Ref sig .tc := ⟨.hbm, 563, rfl⟩
abbrev main_call16_cst_5 : Ref sig .tc := ⟨.hbm, 564, rfl⟩
abbrev main_call16_v19 : Ref sig .tc := ⟨.hbm, 565, rfl⟩
abbrev main_call16_cst_6 : Ref sig .tc := ⟨.hbm, 566, rfl⟩
abbrev main_call16_call0_v0 : Ref sig .tc := ⟨.hbm, 567, rfl⟩
abbrev main_v61 : Ref sig .tc := ⟨.hbm, 568, rfl⟩
abbrev main_v62 : Ref sig .tc := ⟨.hbm, 569, rfl⟩
abbrev main_v63 : Ref sig .tc := ⟨.hbm, 570, rfl⟩

abbrev nD : Nat := 1
abbrev τ : Topo := Topo.v7x

variable {F : FTy → Type} [FloatOps F]
-- ==== Proof.RefOps.lean ====
/-
  The reference's @main as a list of its host operations: the prologue (softmax, confidence, argmax, accuracy), and
  then sixteen rounds, one per bin, each the same line of operations over its own buffers (hand-written).
-/
module

public import proofs.«01_k».proof.Proof.Gen.ReferenceIdeal
public import Idealize.ShloMosaic.Lib.StableHlo.Run
public import Idealize.ShloMosaic.Lib.StableHlo.RunRead
public import Idealize.ShloMosaic.Lib.Pipeline.Frame

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The operations before the first bin: softmax, its row maxima, its row argmaxima, the accuracies, the zero sum. -/
abbrev prologue : List (HloOp τ sig (Elt F)) :=
  [ nullary main_cst (constant S_ .f32 0xFF800000#32),
    binary main_arg0 main_cst main_v0 ((fun x v => Host.reduce FloatOps.maximumf x v reducesTo_S1048576x128_S1048576_d1 h_S_) : (⟨S1048576x128, .f32⟩ : BufTy).Contents (Elt F) → (⟨S_, .f32⟩ : BufTy).Contents (Elt F) → (⟨S1048576, .f32⟩ : BufTy).Contents (Elt F)),
    nullary main_cst_0 (constant S_ .f32 0xFF800000#32),
    unary main_cst_0 main_v1 (broadcastInDim S1048576 ![] bcast_S_S1048576 : (⟨S_, .f32⟩ : BufTy).Contents (Elt F) → (⟨S1048576, .f32⟩ : BufTy).Contents (Elt F)),
    binary main_v1 main_v0 main_v2 (maximumf : (⟨S1048576, .f32⟩ : BufTy).Contents (Elt F) → (⟨S1048576, .f32⟩ : BufTy).Contents (Elt F) → (⟨S1048576, .f32⟩ : BufTy).Contents (Elt F)),
    unary main_v2 main_v3 (broadcastInDim S1048576x1 ![0] bcast_S1048576_S1048576x1_0 : (⟨S1048576, .f32⟩ : BufTy).Contents (Elt F) → (⟨S1048576x1, .f32⟩ : BufTy).Contents (Elt F)),
    unary main_v3 main_v4 (broadcastInDim S1048576x128 ![0, 1] bcast_S1048576x1_S1048576x128_0_1 : (⟨S1048576x1, .f32⟩ : BufTy).Contents (Elt F) → (⟨S1048576x128, .f32⟩ : BufTy).Contents (Elt F)),
    binary main_arg0 main_v4 main_v5 (subf : (⟨S1048576x128, .f32⟩ : BufTy).Contents (Elt F) → (⟨S1048576x128, .f32⟩ : BufTy).Contents (Elt F) → (⟨S1048576x128, .f32⟩ : BufTy).Contents (Elt F)),
    unary main_v5 main_v6 (Host.exp : (⟨S1048576x128, .f32⟩ : BufTy).Contents (Elt F) → (⟨S1048576x128, .f32⟩ : BufTy).Contents (Elt F)),
    nullary main_cst_1 (constant S_ .f32 0x00000000#32),
    binary main_v6 main_cst_1 main_v7 ((fun x v => Host.reduceAdd x v reducesTo_S1048576x128_S1048576_d1 h_S_) : (⟨S1048576x128, .f32⟩ : BufTy).Contents (Elt F) → (⟨S_, .f32⟩ : BufTy).Contents (Elt F) → (⟨S1048576, .f32⟩ : BufTy).Contents (Elt F)),
    unary main_v7 main_v8 (broadcastInDim S1048576x1 ![0] bcast_S1048576_S1048576x1_0 : (⟨S1048576, .f32⟩ : BufTy).Contents (Elt F) → (⟨S1048576x1, .f32⟩ : BufTy).Contents (Elt F)),
    unary main_v8 main_v9 (broadcastInDim S1048576x128 ![0, 1] bcast_S1048576x1_S1048576x128_0_1 : (⟨S1048576x1, .f32⟩ : BufTy).Contents (Elt F) → (⟨S1048576x128, .f32⟩ : BufTy).Contents (Elt F)),
    binary main_v6 main_v9 main_v10 (Host.divf : (⟨S1048576x128, .f32⟩ : BufTy).Contents (Elt F) → (⟨S1048576x128, .f32⟩ : BufTy).Contents (Elt F) → (⟨S1048576x128, .f32⟩ : BufTy).Contents (Elt F)),
    nullary main_cst_2 (constant S_ .f32 0xFF800000#32),
    binary main_v10 main_cst_2 main_v11 ((fun x v => Host.reduce FloatOps.maximumf x v reducesTo_S1048576x128_S1048576_d1 h_S_) : (⟨S1048576x128, .f32⟩ : BufTy).Contents (Elt F) → (⟨S_, .f32⟩ : BufTy).Contents (Elt F) → (⟨S1048576, .f32⟩ : BufTy).Contents (Elt F)),
    TRef.nullary main_call0.v0 (iotaInDim S1048576x128 32 1),
    TRef.nullary main_call0.cst (constant S_ .f32 0xFF800000#32),
    TRef.nullary main_call0.c (constantI S_ 32 0#32),
    TRef.quaternary (.of main_v10) main_call0.v0 main_call0.cst main_call0.c main_call0.v1_0 (fun x y u v j => (Host.argReduce reducer_argmax_f32_i32 x y u v reducesTo_S1048576x128_S1048576_d1 h_S_ j).1),
    TRef.quaternary (.of main_v10) main_call0.v0 main_call0.cst main_call0.c main_call0.v1_1 (fun x y u v j => (Host.argReduce reducer_argmax_f32_i32 x y u v reducesTo_S1048576x128_S1048576_d1 h_S_ j).2),
    binary main_v12 main_arg1 main_v13 (cmpi .eq : (⟨S1048576, .i32⟩ : BufTy).Contents (Elt F) → (⟨S1048576, .i32⟩ : BufTy).Contents (Elt F) → (⟨S1048576, .i1⟩ : BufTy).Contents (Elt F)),
    unary main_v13 main_v14 (uitofp .f32 : (⟨S1048576, .i1⟩ : BufTy).Contents (Elt F) → (⟨S1048576, .f32⟩ : BufTy).Contents (Elt F)),
    nullary main_cst_3 (constant S_ .f32 0x00000000#32),
    unary main_cst_3 main_v15 (broadcastInDim S1 ![] bcast_S_S1 : (⟨S_, .f32⟩ : BufTy).Contents (Elt F) → (⟨S1, .f32⟩ : BufTy).Contents (Elt F)) ]

/-- The operations of one call of the bin function over the confidences `a0`, the accuracies `a1`, the bin's lower and
    upper edge, and the call's buffers. -/
abbrev binOps (a0 a1 : TRef sig ⟨S1048576, .f32⟩) (lo hi : TRef sig ⟨S_, .f32⟩) (φ : fn_bin_term.Bufs) : List (HloOp τ sig (Elt F)) :=
  [ TRef.unary lo φ.v0 (broadcastInDim S1048576 ![] bcast_S_S1048576),
    TRef.binary a0 φ.v0 φ.v1 (cmpf .ogt),
    TRef.unary hi φ.v2 (broadcastInDim S1048576 ![] bcast_S_S1048576),
    TRef.binary a0 φ.v2 φ.v3 (cmpf .ole),
    TRef.binary φ.v1 φ.v3 φ.v4 andi,
    TRef.unary φ.v4 φ.v5 (uitofp .f32),
    TRef.nullary φ.cst (constant S_ .f32 0x00000000#32),
    TRef.binary φ.v5 φ.cst φ.v6 (fun x v => Host.reduceAdd x v reducesTo_S1048576_S_d0 h_S_),
    TRef.nullary φ.cst_0 (constant S_ .f32 0x49800000#32),
    TRef.binary φ.v6 φ.cst_0 φ.v7 Host.divf,
    TRef.nullary φ.cst_1 (constant S_ .f32 0x00000000#32),
    TRef.binary φ.v5 φ.cst_1 φ.v8 (fun x v => Host.reduceAdd x v reducesTo_S1048576_S_d0 h_S_),
    TRef.nullary φ.cst_2 (constant S_ .f32 0x3F800000#32),
    TRef.binary φ.v8 φ.cst_2 φ.v9 maximumf,
    TRef.binary a1 φ.v5 φ.v10 mulf,
    TRef.nullary φ.cst_3 (constant S_ .f32 0x00000000#32),
    TRef.binary φ.v10 φ.cst_3 φ.v11 (fun x v => Host.reduceAdd x v reducesTo_S1048576_S_d0 h_S_),
    TRef.binary φ.v11 φ.v9 φ.v12 Host.divf,
    TRef.binary a0 φ.v5 φ.v13 mulf,
    TRef.nullary φ.cst_4 (constant S_ .f32 0x00000000#32),
    TRef.binary φ.v13 φ.cst_4 φ.v14 (fun x v => Host.reduceAdd x v reducesTo_S1048576_S_d0 h_S_),
    TRef.binary φ.v14 φ.v9 φ.v15 Host.divf,
    TRef.binary φ.v15 φ.v12 φ.v16 subf,
    TRef.unary φ.v16 φ.v17 Host.absf,
    TRef.binary φ.v17 φ.v7 φ.v18 mulf,
    TRef.nullary φ.cst_5 (constant S_ .f32 0x00000000#32),
    TRef.binary φ.v7 φ.cst_5 φ.v19 (cmpf .ogt),
    TRef.nullary φ.cst_6 (constant S_ .f32 0x00000000#32),
    TRef.unary φ.cst_6 φ.call0.v0 id,
    TRef.ternary φ.v19 φ.v18 φ.call0.v0 φ.call0.v1 select ]

/-- One bin's round: its two edge words, the buffers they are put in, the buffers of its call, and the buffers of the
    running sum before, of the bin's term, and of the running sum after. -/
structure Round where
  loWord : BitVec 32
  hiWord : BitVec 32
  lo : TRef sig ⟨S_, .f32⟩
  hi : TRef sig ⟨S_, .f32⟩
  φ : fn_bin_term.Bufs
  old : TRef sig ⟨S1, .f32⟩
  term : TRef sig ⟨S1, .f32⟩
  new : TRef sig ⟨S1, .f32⟩

/-- A round's operations up to its bin's term … -/
abbrev Round.opsA (r : Round) : List (HloOp τ sig (Elt F)) :=
  TRef.nullary r.lo (constant S_ .f32 r.loWord) :: TRef.nullary r.hi (constant S_ .f32 r.hiWord) ::
    (binOps (.of main_v11) (.of main_v14) r.lo r.hi r.φ ++ [TRef.unary r.φ.call0.v1 r.term (broadcastInDim S1 ![] bcast_S_S1)])
/-- … and the addition of that term to the running sum. -/
abbrev Round.opsB (r : Round) : List (HloOp τ sig (Elt F)) := [TRef.binary r.old r.term r.new addf]
/-- A round's operations. -/
abbrev Round.ops (r : Round) : List (HloOp τ sig (Elt F)) := r.opsA ++ r.opsB

/-- The sixteen rounds, in order. -/
abbrev rounds : Fin 16 → Round :=
  ![ ⟨0x00000000#32, 0x3D888889#32, .of main_cst_4, .of main_cst_5, main_call1, .of main_v15, .of main_v17, .of main_v18⟩,
     ⟨0x3D888889#32, 0x3E088889#32, .of main_cst_6, .of main_cst_7, main_call2, .of main_v18, .of main_v20, .of main_v21⟩,
     ⟨0x3E088889#32, 0x3E4CCCCD#32, .of main_cst_8, .of main_cst_9, main_call3, .of main_v21, .of main_v23, .of main_v24⟩,
     ⟨0x3E4CCCCD#32, 0x3E888889#32, .of main_cst_10, .of main_cst_11, main_call4, .of main_v24, .of main_v26, .of main_v27⟩,
     ⟨0x3E888889#32, 0x3EAAAAAB#32, .of main_cst_12, .of main_cst_13, main_call5, .of main_v27, .of main_v29, .of main_v30⟩,
     ⟨0x3EAAAAAB#32, 0x3ECCCCCD#32, .of main_cst_14, .of main_cst_15, main_call6, .of main_v30, .of main_v32, .of main_v33⟩,
     ⟨0x3ECCCCCD#32, 0x3EEEEEEF#32, .of main_cst_16, .of main_cst_17, main_call7, .of main_v33, .of main_v35, .of main_v36⟩,
     ⟨0x3EEEEEEF#32, 0x3F088889#32, .of main_cst_18, .of main_cst_19, main_call8, .of main_v36, .of main_v38, .of main_v39⟩,
     ⟨0x3F088889#32, 0x3F19999A#32, .of main_cst_20, .of main_cst_21, main_call9, .of main_v39, .of main_v41, .of main_v42⟩,
     ⟨0x3F19999A#32, 0x3F2AAAAB#32, .of main_cst_22, .of main_cst_23, main_call10, .of main_v42, .of main_v44, .of main_v45⟩,
     ⟨0x3F2AAAAB#32, 0x3F3BBBBC#32, .of main_cst_24, .of main_cst_25, main_call11, .of main_v45, .of main_v47, .of main_v48⟩,
     ⟨0x3F3BBBBC#32, 0x3F4CCCCD#32, .of main_cst_26, .of main_cst_27, main_call12, .of main_v48, .of main_v50, .of main_v51⟩,
     ⟨0x3F4CCCCD#32, 0x3F5DDDDE#32, .of main_cst_28, .of main_cst_29, main_call13, .of main_v51, .of main_v53, .of main_v54⟩,
     ⟨0x3F5DDDDE#32, 0x3F6EEEEF#32, .of main_cst_30, .of main_cst_31, main_call14, .of main_v54, .of main_v56, .of main_v57⟩,
     ⟨0x3F6EEEEF#32, 0x3F800000#32, .of main_cst_32, .of main_cst_33, main_call15, .of main_v57, .of main_v59, .of main_v60⟩,
     ⟨0x3F800000#32, 0x3F888889#32, .of main_cst_34, .of main_cst_35, main_call16, .of main_v60, .of main_v62, .of main_v63⟩ ]

/-- @main's operations: the prologue, then the rounds. -/
abbrev ops : List (HloOp τ sig (Elt F)) := prologue ++ (List.finRange 16).flatMap fun k => (rounds k).ops

set_option maxRecDepth 65536 in
/-- The first window of @main runs the prologue, seven rounds, and the eighth up to its term. -/
theorem part0_eq (d : Dev nD) : main_part0 (F := F) d =
    seq (prologue ++ ((rounds 0).ops ++ ((rounds 1).ops ++ ((rounds 2).ops ++ ((rounds 3).ops ++ ((rounds 4).ops ++ ((rounds 5).ops ++ ((rounds 6).ops ++ (rounds 7).opsA)))))))) := rfl

set_option maxRecDepth 65536 in
/-- The second window of @main runs the rest of the eighth round and the other eight. -/
theorem part1_eq (d : Dev nD) : main_part1 (F := F) d =
    seq ((rounds 7).opsB ++ ((rounds 8).ops ++ ((rounds 9).ops ++ ((rounds 10).ops ++ ((rounds 11).ops ++ ((rounds 12).ops ++ ((rounds 13).ops ++ ((rounds 14).ops ++ ((rounds 15).ops ++ []))))))))) := rfl

set_option maxRecDepth 65536 in
/-- @main is the run of its operations. -/
theorem main_eq (d : Dev nD) : main (F := F) d = seq ops := by
  show (main_part0 (F := F) d >>= fun _ => main_part1 d) = _
  rw [part0_eq, part1_eq, ← seq_append]
  congr 1

/-- Every operation touches TensorCore references only. -/
theorem ops_sub : (ops : List (HloOp τ sig (Elt F))).Forall fun op => op.bufs ⊆ tcRefs τ sig := by
  rw [List.forall_iff_forall_mem]
  simp only [ops, List.mem_append, List.mem_flatMap]
  rintro op (h | ⟨k, -, h⟩)
  · revert op
    rw [← List.forall_iff_forall_mem]
    simp only [List.Forall, nullary_bufs_sub, unary_bufs_sub, binary_bufs_sub, ternary_bufs_sub, quaternary_bufs_sub, and_self]
  · revert op
    generalize rounds k = r
    rintro op (h | h) <;> revert op <;> rw [← List.forall_iff_forall_mem] <;>
    simp only [List.Forall, List.cons_append, List.nil_append, nullary_bufs_sub, unary_bufs_sub, binary_bufs_sub, ternary_bufs_sub, quaternary_bufs_sub, and_self]

/-- Every operation determines its result. -/
theorem ops_fresh : ∀ op ∈ (ops : List (HloOp τ sig (Elt F))), op.fresh = ∅ := by
  simp only [ops, List.mem_append, List.mem_flatMap]
  rintro op (h | ⟨k, -, h⟩)
  · revert op
    rw [← List.forall_iff_forall_mem]
    simp only [List.Forall]; repeat' constructor
  · revert op
    generalize rounds k = r
    rintro op (h | h) <;> revert op <;> rw [← List.forall_iff_forall_mem] <;>
    simp only [List.Forall, List.cons_append, List.nil_append] <;> repeat' constructor

end Cert.ReferenceIdeal.Run

end
-- ==== Proof.RefRun.lean ====
/-
  What the reference's run leaves in its result: the sum over the sixteen bins, first to last, of each bin's term, as
  a pure function of the two arguments (hand-written).
-/
module

public import proofs.«01_k».proof.Proof.RefOps

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ## The pure functions -/

/-- The row maxima of the logits. -/
def rowMax (x : FVec F S1048576x128 .f32) : FVec F S1048576 .f32 :=
  maximumf (broadcastInDim S1048576 ![] bcast_S_S1048576 (constant S_ .f32 0xFF800000#32))
    (Host.reduce FloatOps.maximumf x (constant S_ .f32 0xFF800000#32) reducesTo_S1048576x128_S1048576_d1 h_S_)
/-- A value per row spread over the row. -/
def spread (y : FVec F S1048576 .f32) : FVec F S1048576x128 .f32 :=
  broadcastInDim S1048576x128 ![0, 1] bcast_S1048576x1_S1048576x128_0_1 (broadcastInDim S1048576x1 ![0] bcast_S1048576_S1048576x1_0 y)
/-- The exponentials of the logits over their row maxima. -/
def expo (x : FVec F S1048576x128 .f32) : FVec F S1048576x128 .f32 := Host.exp (subf x (spread (rowMax x)))
/-- The softmax of the logits, row by row. -/
def soft (x : FVec F S1048576x128 .f32) : FVec F S1048576x128 .f32 :=
  Host.divf (expo x) (spread (Host.reduceAdd (expo x) (constant S_ .f32 0x00000000#32) reducesTo_S1048576x128_S1048576_d1 h_S_))
/-- The confidences: the row maxima of the softmax. -/
def conf (x : FVec F S1048576x128 .f32) : FVec F S1048576 .f32 :=
  Host.reduce FloatOps.maximumf (soft x) (constant S_ .f32 0xFF800000#32) reducesTo_S1048576x128_S1048576_d1 h_S_
/-- The predictions: the row argmaxima of the softmax. -/
def pred (x : FVec F S1048576x128 .f32) : IVec S1048576 32 := fun j =>
  (Host.argReduce reducer_argmax_f32_i32 (soft x) (iotaInDim S1048576x128 32 1) (constant S_ .f32 0xFF800000#32) (constantI S_ 32 0#32)
    reducesTo_S1048576x128_S1048576_d1 h_S_ j).2
/-- The accuracies: 1 for a row whose prediction is its label, 0 for the others. -/
def accu (x : FVec F S1048576x128 .f32) (l : IVec S1048576 32) : FVec F S1048576 .f32 := uitofp .f32 (cmpi .eq (pred x) l)

/-- Which rows fall in the bin above `lo` up to `hi`: 1 for a row in it, 0 for the others. -/
def inBin (cf : FVec F S1048576 .f32) (lo hi : FVec F S_ .f32) : FVec F S1048576 .f32 :=
  uitofp .f32 (andi (cmpf .ogt cf (broadcastInDim S1048576 ![] bcast_S_S1048576 lo))
    (cmpf .ole cf (broadcastInDim S1048576 ![] bcast_S_S1048576 hi)))
/-- The sum of an array over its rows. -/
def total (x : FVec F S1048576 .f32) : FVec F S_ .f32 :=
  Host.reduceAdd x (constant S_ .f32 0x00000000#32) reducesTo_S1048576_S_d0 h_S_
/-- A bin's term from its indicator: the gap of the mean confidence and the mean accuracy of its rows, times its share
    of the rows; zero for an empty bin. -/
def gap (cf ac ind : FVec F S1048576 .f32) : FVec F S_ .f32 :=
  select (cmpf .ogt (Host.divf (total ind) (constant S_ .f32 0x49800000#32)) (constant S_ .f32 0x00000000#32))
    (mulf (Host.absf (subf
        (Host.divf (total (mulf cf ind)) (maximumf (total ind) (constant S_ .f32 0x3F800000#32)))
        (Host.divf (total (mulf ac ind)) (maximumf (total ind) (constant S_ .f32 0x3F800000#32)))))
      (Host.divf (total ind) (constant S_ .f32 0x49800000#32)))
    (constant S_ .f32 0x00000000#32)
/-- The `k`-th bin's term. -/
def term (cf ac : FVec F S1048576 .f32) (k : Fin 16) : FVec F S_ .f32 :=
  gap cf ac (inBin cf (constant S_ .f32 (rounds k).loWord) (constant S_ .f32 (rounds k).hiWord))

/-- The running sum after the first `n` bins. -/
def partialSum (cf ac : FVec F S1048576 .f32) : (n : ℕ) → n ≤ 16 → FVec F S1 .f32
  | 0, _ => broadcastInDim S1 ![] bcast_S_S1 (constant S_ .f32 0x00000000#32)
  | n + 1, h => addf (partialSum cf ac n (Nat.le_of_succ_le h)) (broadcastInDim S1 ![] bcast_S_S1 (term cf ac ⟨n, h⟩))

/-- The reference's result. -/
def result (x : FVec F S1048576x128 .f32) (l : IVec S1048576 32) : FVec F S1 .f32 := partialSum (conf x) (accu x l) 16 le_rfl

/-! ## One round -/

/-- What a typed reference's buffer holds. -/
abbrev rd {T : BufTy} (x : TRef sig T) (V : Valuation τ sig (Elt F)) : T.Contents (Elt F) := x.ofBuf (V (Proc.devRef .tc x.ref))

set_option maxRecDepth 8192 in
/-- A round leaves in its sum's buffer the sum it found plus the bin's term. -/
theorem round_new (k : Fin 16) (V : Valuation τ sig (Elt F)) :
    rd (rounds k).new (after (rounds k).ops V)
      = addf (rd (rounds k).old V) (broadcastInDim S1 ![] bcast_S_S1 (term (V (Proc.devRef .tc main_v11)) (V (Proc.devRef .tc main_v14)) k)) := by
  fin_cases k <;> (unfold rd; after_reads_simp; rfl)

set_option maxRecDepth 8192 in
/-- A round keeps the confidences, the accuracies and the arguments. -/
theorem round_keep (k : Fin 16) (V : Valuation τ sig (Elt F)) :
    after (rounds k).ops V (Proc.devRef .tc main_v11) = V (Proc.devRef .tc main_v11)
    ∧ after (rounds k).ops V (Proc.devRef .tc main_v14) = V (Proc.devRef .tc main_v14)
    ∧ after (rounds k).ops V (Proc.devRef .tc main_arg0) = V (Proc.devRef .tc main_arg0)
    ∧ after (rounds k).ops V (Proc.devRef .tc main_arg1) = V (Proc.devRef .tc main_arg1) := by
  fin_cases k <;> after_reads_simp <;> simp

end Cert.ReferenceIdeal.Run

end
-- ==== Proof.RefValue.lean ====
/-
  The reference's run: every execution ends with the sum over the bins in its result buffer, its arguments unchanged
  and every counter at zero (hand-written).
-/
module

public import proofs.«01_k».proof.Proof.RefRun
public import Idealize.ShloMosaic.Lib.Quiescent

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The first `n` rounds' operations. -/
abbrev firstRounds (n : ℕ) : List (HloOp τ sig (Elt F)) := ((List.finRange 16).take n).flatMap fun k => (rounds k).ops

/-- One more round is the rounds before it, then it. -/
theorem firstRounds_succ (n : ℕ) (h : n < 16) :
    (firstRounds (n + 1) : List (HloOp τ sig (Elt F))) = firstRounds n ++ (rounds ⟨n, h⟩).ops := by
  unfold firstRounds
  rw [List.take_add_one, List.getElem?_eq_getElem (by simpa using h), List.getElem_finRange]
  simp only [Option.toList_some, List.flatMap_append, List.flatMap_singleton]
  rfl

/-- The sum a round starts from is the one the round before it left. -/
theorem old_eq (n : ℕ) (h : n + 1 < 16) : (rounds ⟨n + 1, h⟩).old = (rounds ⟨n, Nat.lt_of_succ_lt h⟩).new := by
  have : ∀ k : Fin 15, (rounds k.succ).old = (rounds k.castSucc).new := fun k => by fin_cases k <;> rfl
  exact this ⟨n, Nat.lt_of_succ_lt_succ h⟩

set_option maxRecDepth 8192 in
/-- What the prologue leaves. -/
theorem prologue_vals (V : Valuation τ sig (Elt F)) :
    after prologue V (Proc.devRef .tc main_v11) = conf (V (Proc.devRef .tc main_arg0))
    ∧ after prologue V (Proc.devRef .tc main_v14) = accu (V (Proc.devRef .tc main_arg0)) (V (Proc.devRef .tc main_arg1))
    ∧ after prologue V (Proc.devRef .tc main_v15) = (broadcastInDim S1 ![] bcast_S_S1 (constant S_ .f32 0x00000000#32) : FVec F S1 .f32)
    ∧ after prologue V (Proc.devRef .tc main_arg0) = V (Proc.devRef .tc main_arg0)
    ∧ after prologue V (Proc.devRef .tc main_arg1) = V (Proc.devRef .tc main_arg1) := by
  refine ⟨?_, ?_, ?_, ?_, ?_⟩ <;> after_reads_simp <;> rfl

/-- The rounds keep what they share, however many have run. -/
theorem firstRounds_keep (V : Valuation τ sig (Elt F)) : ∀ n, n ≤ 16 →
    after (firstRounds n) V (Proc.devRef .tc main_v11) = V (Proc.devRef .tc main_v11)
    ∧ after (firstRounds n) V (Proc.devRef .tc main_v14) = V (Proc.devRef .tc main_v14)
    ∧ after (firstRounds n) V (Proc.devRef .tc main_arg0) = V (Proc.devRef .tc main_arg0)
    ∧ after (firstRounds n) V (Proc.devRef .tc main_arg1) = V (Proc.devRef .tc main_arg1)
  | 0, _ => ⟨rfl, rfl, rfl, rfl⟩
  | n + 1, h => by
    rw [firstRounds_succ n h, after_append]
    obtain ⟨a, b, c, d⟩ := round_keep ⟨n, h⟩ (after (firstRounds n) V)
    obtain ⟨a', b', c', d'⟩ := firstRounds_keep V n (Nat.le_of_succ_le h)
    exact ⟨a.trans a', b.trans b', c.trans c', d.trans d'⟩

/-- After the round `n` its sum's buffer holds the sum of the bins up to it. -/
theorem sum_after (V : Valuation τ sig (Elt F)) (cf ac : FVec F S1048576 .f32)
    (h11 : V (Proc.devRef .tc main_v11) = cf) (h14 : V (Proc.devRef .tc main_v14) = ac)
    (h15 : V (Proc.devRef .tc main_v15) = (broadcastInDim S1 ![] bcast_S_S1 (constant S_ .f32 0x00000000#32) : FVec F S1 .f32)) :
    ∀ n (h : n < 16), rd (rounds ⟨n, h⟩).new (after (firstRounds (n + 1)) V) = partialSum cf ac (n + 1) h
  | 0, h => by
    rw [firstRounds_succ 0 h, after_append, round_new]
    show addf (V (Proc.devRef .tc main_v15)) (broadcastInDim S1 ![] bcast_S_S1 (term (V (Proc.devRef .tc main_v11)) (V (Proc.devRef .tc main_v14)) 0)) = _
    rw [h11, h14, h15]
    rfl
  | n + 1, h => by
    rw [firstRounds_succ (n + 1) h, after_append, round_new, old_eq n h, sum_after V cf ac h11 h14 h15 n (Nat.lt_of_succ_lt h)]
    obtain ⟨a, b, -, -⟩ := firstRounds_keep V (n + 1) (le_of_lt h)
    rw [a, b, h11, h14]
    rfl

/-- The last round's sum is @main's result. -/
theorem last_new (W : Valuation τ sig (Elt F)) : rd (rounds ⟨15, by decide⟩).new W = W (Proc.devRef .tc main_v63) := rfl

/-- What the whole of @main leaves in its result and its arguments. -/
theorem after_ops (V : Valuation τ sig (Elt F)) :
    after ops V (Proc.devRef .tc main_v63) = result (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  obtain ⟨p11, p14, p15, p0, p1⟩ := prologue_vals V
  have e : (ops : List (HloOp τ sig (Elt F))) = prologue ++ firstRounds 16 := by
    unfold ops firstRounds; rw [List.take_of_length_le (by simp)]
  rw [e, after_append]
  obtain ⟨-, -, k0, k1⟩ := firstRounds_keep (after prologue V) 16 le_rfl
  have s := sum_after (after prologue V) _ _ p11 p14 p15 15 (by decide)
  rw [last_new] at s
  exact ⟨s, k0.trans p0, k1.trans p1⟩

/-- The reference scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

variable (m : (ℓ : Loc nD τ sig) → Buf (Elt F) ℓ) (ρ : Dev nD → PrngReg)

/-- The run of the reference: its result, its arguments kept. -/
theorem run : θ_run defs (onTc (τ := τ) (main (F := F))) ⟨m, fun _ => 0, ρ⟩ fun r => ∀ c : Dev nD,
      r.2.mem ((c.tc : Thread nD τ).loc main_v63) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨a, b, d⟩ := after_ops (launchContents m c)
      exact ⟨(h c main_v63).trans a, (h c main_arg0).trans b, (h c main_arg1).trans d⟩)
    (run_seq scopedRefs_eq scopedSems_eq defs main (fun _ => ops) main_eq (fun _ => ops_sub) m ρ fun _ => ops_fresh)

/-- The frame of the reference: its arguments kept, every counter at zero. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run m ρ)

end Cert.ReferenceIdeal.Run

end
-- ==== Proof.KernelBlock.lean ====
/-
  What one grid point of the kernel leaves behind, as plain functions of what it reads: the block of rows, the block of
  labels, the table of bin edges, and the three running accumulators (hand-written).
-/
module

public import proofs.«01_k».proof.Proof.RefValue
public import proofs.«01_k».proof.Proof.Gen.KernelIdeal.Frame
public import Idealize.ShloMosaic.Lib.Pipeline.Value
public import Idealize.ShloMosaic.Lib.Tactic

@[expose] public section

noncomputable section

namespace Cert.KernelIdeal.Block

open Cert.KernelIdeal Cert.KernelIdeal.Gen Idealize.ShloMosaic Idealize.ShloMosaic.TcCoe Idealize.SL.Sem
open Idealize.ShloMosaic.Pipeline (Dat)

variable {F : FTy → Type} [FloatOps F]

/-- Offsets zero on both axes, as the constant function. -/
theorem hz : (![0, 0] : Fin 2 → Nat) = fun _ => 0 := funext fun a => by fin_cases a <;> rfl
/-- Offsets zero on three axes, as the constant function. -/
theorem hz3 : (![0, 0, 0] : Fin 3 → Nat) = fun _ => 0 := funext fun a => by fin_cases a <;> rfl

/-- The row of lower bin edges, read off the kernel's table of edges. -/
def loRow (e : Vec F S2x16 .f32) : Vec F S1x16 .f32 := View.ld e (Rect.unit ![0, 0] S1x16.size inb_S2x16_S1x16_0_0)
/-- The row of upper bin edges, read off the kernel's table of edges. -/
def hiRow (e : Vec F S2x16 .f32) : Vec F S1x16 .f32 := View.ld e (Rect.unit ![1, 0] S1x16.size inb_S2x16_S1x16_1_0)

/-- The counts after a point: the counts before, plus for each bin how many rows of the block fall in it. -/
def newCnt (x : Vec F S4096x128 .f32) (e : Vec F S2x16 .f32) (s : Vec F S1x16 .f32) : Vec F S1x16 .f32 :=
  k0_pay1 s (k0_pay12 x (loRow e) (hiRow e))
/-- The confidence sums after a point: those before, plus for each bin the confidences of the block's rows in it. -/
def newConf (x : Vec F S4096x128 .f32) (e : Vec F S2x16 .f32) (s : Vec F S1x16 .f32) : Vec F S1x16 .f32 :=
  k0_pay2 (k0_pay9 x) (k0_pay11 x (loRow e) (hiRow e)) s
/-- The accuracy sums after a point: those before, plus for each bin the accuracies of the block's rows in it. -/
def newAcc (x : Vec F S4096x128 .f32) (l : Vec F S1x1x4096 .i32) (e : Vec F S2x16 .f32) (s : Vec F S1x16 .f32) : Vec F S1x16 .f32 :=
  k0_pay3 (k0_pay10 x l) (k0_pay11 x (loRow e) (hiRow e)) s

variable (c : Dev nD) (i : grid0.Coords) (a1 : Memref sig .tc .vmem S4096x128 .f32) (h1 : a1.IsWhole)
  (a2 : Memref sig .tc .vmem S1x1x4096 .i32) (h2 : a2.IsWhole) (a3 : Memref sig .tc .vmem S2x16 .f32) (h3 : a3.IsWhole)
  (a4 : Memref sig .tc .vmem S8x128 .f32) (h4 : a4.IsWhole) (a5 : Memref sig .tc .vmem S1x16 .f32) (h5 : a5.IsWhole)
  (a6 : Memref sig .tc .vmem S1x16 .f32) (h6 : a6.IsWhole) (a7 : Memref sig .tc .vmem S1x16 .f32) (h7 : a7.IsWhole)
  (x : Vec F S4096x128 .f32) (l : Vec F S1x1x4096 .i32) (e : Vec F S2x16 .f32) (s0 s1 s2 : Vec F S1x16 .f32)

/-- First point: the counts it leaves are the block's alone, added to zero. -/
theorem first_0 (hc0 : cond0_0 i) (hc1 : ¬cond0_1 i) :
    sout0_A_0 c i a1 h1 a2 h2 a3 h3 a4 h4 a5 h5 a6 h6 a7 h7 hc0 hc1 x l e = newCnt x e k0_pay5 := by
  unfold sout0_A_0
  rw [View.read_writes_eq_canon _ _ _ (scover0_A_0 c i a1 h1 a2 h2 a3 h3 a4 h4 a5 h5 a6 h6 a7 h7 hc0 hc1 x l e)]
  unfold kernelRun0_A
  dsimp only
  sl_unfold_words
  rw [View.canon_cons_unit_zero (S := S1x16) hz, View.readCov_unit_zero (S := S1x16) _ hz]
  simp only [View.readAt_eq_ld, h1.read_unread, h2.read_unread, h3.read_unread, h5.read_unread, h6.read_unread, h7.read_unread,
    View.ld_unit_zero (S := S4096x128) hz, View.ld_unit_zero (S := S1x1x4096) hz3, View.ld_unit_zero (S := S1x16) hz]
  rfl

/-- A middle point: the counts it leaves are those it found plus the block's. -/
theorem middle_0 (hc0 : ¬cond0_0 i) (hc1 : ¬cond0_1 i) :
    sout0_B_0 c i a1 h1 a2 h2 a3 h3 a4 h4 a5 h5 a6 h6 a7 h7 hc0 hc1 x l e s0 s1 s2 = newCnt x e s0 := by
  unfold sout0_B_0
  rw [View.read_writes_eq_canon _ _ _ (scover0_B_0 c i a1 h1 a2 h2 a3 h3 a4 h4 a5 h5 a6 h6 a7 h7 hc0 hc1 x l e s0 s1 s2)]
  unfold kernelRun0_B
  dsimp only
  sl_unfold_words
  rw [View.canon_unit_zero (S := S1x16) hz]
  simp only [View.readAt_eq_ld, h1.read_unread, h2.read_unread, h3.read_unread, h5.read_unread, h6.read_unread, h7.read_unread,
    View.ld_unit_zero (S := S4096x128) hz, View.ld_unit_zero (S := S1x1x4096) hz3, View.ld_unit_zero (S := S1x16) hz]
  rfl

/-- First point: the confidence sums it leaves are the block's alone, added to zero. -/
theorem first_1 (hc0 : cond0_0 i) (hc1 : ¬cond0_1 i) :
    sout0_A_1 c i a1 h1 a2 h2 a3 h3 a4 h4 a5 h5 a6 h6 a7 h7 hc0 hc1 x l e = newConf x e k0_pay6 := by
  unfold sout0_A_1
  rw [View.read_writes_eq_canon _ _ _ (scover0_A_1 c i a1 h1 a2 h2 a3 h3 a4 h4 a5 h5 a6 h6 a7 h7 hc0 hc1 x l e)]
  unfold kernelRun0_A
  dsimp only
  sl_unfold_words
  rw [View.canon_cons_unit_zero (S := S1x16) hz, View.readCov_unit_zero (S := S1x16) _ hz]
  simp only [View.readAt_eq_ld, h1.read_unread, h2.read_unread, h3.read_unread, h5.read_unread, h6.read_unread, h7.read_unread,
    View.ld_unit_zero (S := S4096x128) hz, View.ld_unit_zero (S := S1x1x4096) hz3, View.ld_unit_zero (S := S1x16) hz]
  rfl

/-- A middle point: the confidence sums it leaves are those it found plus the block's. -/
theorem middle_1 (hc0 : ¬cond0_0 i) (hc1 : ¬cond0_1 i) :
    sout0_B_1 c i a1 h1 a2 h2 a3 h3 a4 h4 a5 h5 a6 h6 a7 h7 hc0 hc1 x l e s0 s1 s2 = newConf x e s1 := by
  unfold sout0_B_1
  rw [View.read_writes_eq_canon _ _ _ (scover0_B_1 c i a1 h1 a2 h2 a3 h3 a4 h4 a5 h5 a6 h6 a7 h7 hc0 hc1 x l e s0 s1 s2)]
  unfold kernelRun0_B
  dsimp only
  sl_unfold_words
  rw [View.canon_unit_zero (S := S1x16) hz]
  simp only [View.readAt_eq_ld, h1.read_unread, h2.read_unread, h3.read_unread, h5.read_unread, h6.read_unread, h7.read_unread,
    View.ld_unit_zero (S := S4096x128) hz, View.ld_unit_zero (S := S1x1x4096) hz3, View.ld_unit_zero (S := S1x16) hz]
  rfl

/-- First point: the accuracy sums it leaves are the block's alone, added to zero. -/
theorem first_2 (hc0 : cond0_0 i) (hc1 : ¬cond0_1 i) :
    sout0_A_2 c i a1 h1 a2 h2 a3 h3 a4 h4 a5 h5 a6 h6 a7 h7 hc0 hc1 x l e = newAcc x l e k0_pay7 := by
  unfold sout0_A_2
  rw [View.read_writes_eq_canon _ _ _ (scover0_A_2 c i a1 h1 a2 h2 a3 h3 a4 h4 a5 h5 a6 h6 a7 h7 hc0 hc1 x l e)]
  unfold kernelRun0_A
  dsimp only
  sl_unfold_words
  rw [View.canon_cons_unit_zero (S := S1x16) hz, View.readCov_unit_zero (S := S1x16) _ hz]
  simp only [View.readAt_eq_ld, h1.read_unread, h2.read_unread, h3.read_unread, h5.read_unread, h6.read_unread, h7.read_unread,
    View.ld_unit_zero (S := S4096x128) hz, View.ld_unit_zero (S := S1x1x4096) hz3, View.ld_unit_zero (S := S1x16) hz]
  rfl

/-- A middle point: the accuracy sums it leaves are those it found plus the block's. -/
theorem middle_2 (hc0 : ¬cond0_0 i) (hc1 : ¬cond0_1 i) :
    sout0_B_2 c i a1 h1 a2 h2 a3 h3 a4 h4 a5 h5 a6 h6 a7 h7 hc0 hc1 x l e s0 s1 s2 = newAcc x l e s2 := by
  unfold sout0_B_2
  rw [View.read_writes_eq_canon _ _ _ (scover0_B_2 c i a1 h1 a2 h2 a3 h3 a4 h4 a5 h5 a6 h6 a7 h7 hc0 hc1 x l e s0 s1 s2)]
  unfold kernelRun0_B
  dsimp only
  sl_unfold_words
  rw [View.canon_unit_zero (S := S1x16) hz]
  simp only [View.readAt_eq_ld, h1.read_unread, h2.read_unread, h3.read_unread, h5.read_unread, h6.read_unread, h7.read_unread,
    View.ld_unit_zero (S := S4096x128) hz, View.ld_unit_zero (S := S1x1x4096) hz3, View.ld_unit_zero (S := S1x16) hz]
  rfl

/-- The last point: it leaves in the output block the closing formula of the three accumulators it has just updated. -/
theorem last_out (hc0 : ¬cond0_0 i) (hc1 : cond0_1 i) :
    out0_C_3 c i a1 h1 a2 h2 a3 h3 a4 h4 a5 h5 a6 h6 a7 h7 hc0 hc1 x l e s0 s1 s2 = k0_pay4 (newCnt x e s0) (newConf x e s1) (newAcc x l e s2) := by
  unfold out0_C_3
  rw [View.read_writes_eq_canon _ _ _ (cover0_C_3 c i a1 h1 a2 h2 a3 h3 a4 h4 a5 h5 a6 h6 a7 h7 hc0 hc1 x l e s0 s1 s2)]
  unfold kernelRun0_C
  dsimp only
  sl_unfold_words
  rw [View.canon_unit_zero (S := S8x128) hz, View.readCov_unit_zero (S := S1x16) _ hz, View.readCov_unit_zero (S := S1x16) _ hz,
    View.readCov_unit_zero (S := S1x16) _ hz]
  simp only [View.readAt_eq_ld, h1.read_unread, h2.read_unread, h3.read_unread, h5.read_unread, h6.read_unread, h7.read_unread,
    View.ld_unit_zero (S := S4096x128) hz, View.ld_unit_zero (S := S1x1x4096) hz3, View.ld_unit_zero (S := S1x16) hz]
  rfl

end Cert.KernelIdeal.Block

end
-- ==== Proof.KernelArray.lean ====
/-
  What the kernel's result array ends holding: the three accumulators run over the 256 blocks, first to last, and the
  closing formula of what they end at, written by the last point (hand-written).
-/
module

public import proofs.«01_k».proof.Proof.KernelBlock
public import Idealize.ShloMosaic.Lib.Pointwise
public import Idealize.ShloMosaic.Lib.StableHlo.RunRead

@[expose] public section

noncomputable section

namespace Cert.KernelIdeal.Block

open Cert.KernelIdeal Cert.KernelIdeal.Gen Idealize.ShloMosaic Idealize.ShloMosaic.TcCoe Idealize.SL.Sem
open Idealize.ShloMosaic.Pipeline (Dat)

variable {F : FTy → Type} [FloatOps F]

/-! ## The pure functions -/

/-- The `t`-th block of 4096 rows of the logits. -/
def xBlock (x : Vec F S1048576x128 .f32) (t : Fin 256) : Vec F S4096x128 .f32 := fun j =>
  x (ix2 ⟨4096 * t.val + (j 0).val, by have h : (j 0).val < 4096 := (j 0).isLt; have := t.isLt; omega⟩ ⟨(j 1).val, (j 1).isLt⟩)
/-- The `t`-th block of 4096 labels. -/
def lBlock (l : Vec F S1048576 .i32) (t : Fin 256) : Vec F S1x1x4096 .i32 := fun j =>
  l (ix1 ⟨4096 * t.val + (j 2).val, by have h : (j 2).val < 4096 := (j 2).isLt; have := t.isLt; omega⟩)
/-- The table of bin edges. -/
def edges : Vec F S2x16 .f32 := fun i => FloatOps.ofBits .f32 (lit0 (S2x16.rowMajor i))

/-- The three accumulators after the point `n`. -/
def accs (x : Vec F S1048576x128 .f32) (l : Vec F S1048576 .i32) :
    (n : ℕ) → n < 256 → Vec F S1x16 .f32 × Vec F S1x16 .f32 × Vec F S1x16 .f32
  | 0, h => (newCnt (xBlock x ⟨0, h⟩) edges k0_pay5, newConf (xBlock x ⟨0, h⟩) edges k0_pay6,
      newAcc (xBlock x ⟨0, h⟩) (lBlock l ⟨0, h⟩) edges k0_pay7)
  | n + 1, h => (newCnt (xBlock x ⟨n + 1, h⟩) edges (accs x l n (Nat.lt_of_succ_lt h)).1,
      newConf (xBlock x ⟨n + 1, h⟩) edges (accs x l n (Nat.lt_of_succ_lt h)).2.1,
      newAcc (xBlock x ⟨n + 1, h⟩) (lBlock l ⟨n + 1, h⟩) edges (accs x l n (Nat.lt_of_succ_lt h)).2.2)

/-- The block the last point writes. -/
def outBlock (x : Vec F S1048576x128 .f32) (l : Vec F S1048576 .i32) : Vec F S8x128 .f32 :=
  k0_pay4 (accs x l 255 (by decide)).1 (accs x l 255 (by decide)).2.1 (accs x l 255 (by decide)).2.2

/-- The kernel's result: the first entry of that block. -/
def result (x : Vec F S1048576x128 .f32) (l : Vec F S1048576 .i32) : Vec F S1 .f32 :=
  shapeCast S1 (shapeCast S_ (extractStridedSlice S1x1 ![0, 0] (outBlock x l) slices_S8x128_S1x1_0_0) shapeCasts_S1x1_S_) shapeCasts_S_S1

/-! ## The blocks the windows read -/

variable (m : (ℓ : Loc nD τ sig) → Buf (Elt F) ℓ) (ρ : Dev nD → PrngReg)

/-- Where each window stands at each point. -/
theorem index_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The logits' window at point `t` reads the `t`-th block of rows. -/
theorem iblk_0 (c : Dev nD) (t : Fin cfg0.N) (ht : t.val < 256) :
    (iblk m c 0 t : Vec F S4096x128 .f32) = xBlock (m ((c : Thread nD τ).loc main_arg0)) ⟨t.val, ht⟩ := by
  obtain ⟨e0, e1, -⟩ := index_facts t
  funext j
  unfold iblk xBlock
  rw [View.read_apply]
  show V m c main_arg0 _ = _
  rw [V_main_arg0]
  congr 1
  funext a
  apply Fin.ext
  match a with
  | ⟨0, _⟩ => show win0_0.index t 0 * 4096 + 1 * (j 0).val = 4096 * t.val + (j 0).val; rw [e0]; omega
  | ⟨1, _⟩ => show win0_0.index t 1 * 128 + 1 * (j 1).val = (j 1).val; rw [e1]; omega

/-- The labels' array as the region finds it: the labels, in 256 rows. -/
theorem V_labels (c : Dev nD) : (V m c main_call0_v0 : Vec F S256x1x4096 .i32)
    = shapeCast S256x1x4096 (m ((c : Thread nD τ).loc main_arg1)) shapeCasts_S1048576_S256x1x4096 := by
  unfold V V0
  after_reads_simp
  rfl

/-- The edges' array as the region finds it. -/
theorem V_edges (c : Dev nD) : (V m c main_call0_cst : Vec F S2x16 .f32) = edges := by
  unfold V V0
  after_reads_simp
  rfl

/-- The labels' window at point `t` reads the `t`-th block of labels. -/
theorem iblk_1 (c : Dev nD) (t : Fin cfg0.N) (ht : t.val < 256) :
    (iblk m c 1 t : Vec F S1x1x4096 .i32) = lBlock (m ((c : Thread nD τ).loc main_arg1)) ⟨t.val, ht⟩ := by
  obtain ⟨-, -, e0, e1, e2, -⟩ := index_facts t
  funext j
  unfold iblk
  rw [View.read_apply]
  have hj0 : (j 0).val < 1 := (j 0).isLt
  have hj1 : (j 1).val < 1 := (j 1).isLt
  have hj2 : (j 2).val < 4096 := (j 2).isLt
  have hi : ((cfg0.win 1).blk t).view.emb j = (ix3 (n0 := 256) (n1 := 1) (n2 := 4096) ⟨t.val, ht⟩ ⟨0, by decide⟩ ⟨(j 2).val, hj2⟩ : S256x1x4096.Idx) := by
    funext a
    apply Fin.ext
    match a with
    | ⟨0, _⟩ => show win0_1.index t 0 * 1 + 1 * (j 0).val = t.val; rw [e0]; omega
    | ⟨1, _⟩ => show win0_1.index t 1 * 1 + 1 * (j 1).val = 0; rw [e1]; omega
    | ⟨2, _⟩ => show win0_1.index t 2 * 4096 + 1 * (j 2).val = (j 2).val; rw [e2]; omega
  rw [hi]
  show V m c main_call0_v0 _ = _
  rw [V_labels]
  exact congrArg (m ((c : Thread nD τ).loc main_arg1)) (Shape.reshapeEquiv_eq_of_vals _ _ _ (4096 * t.val + (j 2).val) (t.val * 4096 + 0 * 4096 + (j 2).val)
    (rowMajor_val1 _) (rowMajor_val3 _ 4096 4096 rfl rfl) (by omega))

/-- The edges' window reads the whole table. -/
theorem iblk_2 (c : Dev nD) (t : Fin cfg0.N) : (iblk m c 2 t : Vec F S2x16 .f32) = edges := by
  obtain ⟨-, -, -, -, -, e0, e1, -⟩ := index_facts t
  funext j
  unfold iblk
  rw [View.read_apply]
  have hi : ((cfg0.win 2).blk t).view.emb j = j := by
    funext a
    apply Fin.ext
    match a with
    | ⟨0, _⟩ => show win0_2.index t 0 * 2 + 1 * (j 0).val = (j 0).val; rw [e0]; omega
    | ⟨1, _⟩ => show win0_2.index t 1 * 16 + 1 * (j 1).val = (j 1).val; rw [e1]; omega
  rw [hi]
  show V m c main_call0_cst _ = _
  rw [V_edges]

/-! ## The accumulators over the grid -/

/-- Before the last point, what the scratch arrays hold after a point is the three accumulators. -/
theorem scratch_eq (c : Dev nD) : ∀ (n : ℕ) (h : n < cfg0.N) (h' : n < 255),
    (outsAt0 m c n h).2 = accs (m ((c : Thread nD τ).loc main_arg0)) (m ((c : Thread nD τ).loc main_arg1)) n (by omega)
  | 0, h, h' => by
    rw [show outsAt0 m c 0 h = _ from outsAt0_A m c ⟨0, h⟩ rfl (by simp)]
    dsimp only
    rw [first_0, first_1, first_2, iblk_0 m c ⟨0, h⟩ (by simp), iblk_1 m c ⟨0, h⟩ (by simp), iblk_2 m c ⟨0, h⟩]
    rfl
  | n + 1, h, h' => by
    rw [show outsAt0 m c (n + 1) h = _ from outsAt0_B m c ⟨n + 1, h⟩ (by dsimp only; omega) (by dsimp only; omega)]
    dsimp only
    rw [middle_0, middle_1, middle_2, iblk_0 m c ⟨n + 1, h⟩ (by dsimp only; omega), iblk_1 m c ⟨n + 1, h⟩ (by dsimp only; omega), iblk_2 m c ⟨n + 1, h⟩]
    have e := scratch_eq c n (Nat.lt_of_succ_lt h) (by omega)
    simp only [Nat.add_sub_cancel, e]
    rfl

/-- The last point's output block. -/
theorem last_eq (c : Dev nD) (h : 255 < cfg0.N) :
    (outsAt0 m c 255 h).1 = outBlock (m ((c : Thread nD τ).loc main_arg0)) (m ((c : Thread nD τ).loc main_arg1)) := by
  rw [show outsAt0 m c 255 h = _ from outsAt0_C m c ⟨255, h⟩ (by simp) rfl]
  dsimp only
  rw [last_out, iblk_0 m c ⟨255, h⟩ (by simp), iblk_1 m c ⟨255, h⟩ (by simp), iblk_2 m c ⟨255, h⟩]
  have e := scratch_eq m c 254 (Nat.lt_of_succ_lt h) (by omega)
  simp only [show 255 - 1 = 254 from rfl, e]
  rfl

/-! ## The result array and the run -/

/-- The last point, the only one that writes its block back. -/
abbrev tLast : Fin cfg0.N := ⟨255, by rw [show cfg0.N = 256 from N_0]; decide⟩

/-- What is written back is the block of the closing formula. -/
theorem flushed_eq (c : Dev nD) (t : Fin cfg0.N) (hf : (cfg0.win 3).flush t = true) :
    (dats m 0 c).flushed 3 t = ((cfg0.win 3).blk t).view.read (Elt F)
      (outBlock (m ((c : Thread nD τ).loc main_arg0)) (m ((c : Thread nD τ).loc main_arg1))) := by
  have hN : cfg0.N = 256 := N_0
  have h3 : t.val = 255 := by have := (flush0_3 t).mp hf; have := t.isLt; omega
  obtain rfl : t = tLast := Fin.ext h3
  show (cfg0.win 3).cut (grid0.coords tLast) ((dats m 0 c).after 3 tLast) = _
  rw [after0_3, last_eq]
  have hz' : (fun a => win0_3.index tLast a * main_call0_v1.ty.shape.size a) = fun _ => 0 := by
    obtain ⟨-, -, -, -, -, -, -, e0, e1⟩ := index_facts tLast
    funext a
    match a with
    | ⟨0, _⟩ => show win0_3.index tLast 0 * _ = 0; rw [e0, Nat.zero_mul]
    | ⟨1, _⟩ => show win0_3.index tLast 1 * _ = 0; rw [e1, Nat.zero_mul]
  exact (Memref.read_access_unit_zero (Elt F) main_call0_v1 hz' (fun a => by rw [congrFun hz' a]; simp) _).symm

/-- So the result array ends holding that block. -/
theorem final_o (c : Dev nD) : (dats m 0 c).arrAt 3 cfg0.N
    = outBlock (m ((c : Thread nD τ).loc main_arg0)) (m ((c : Thread nD τ).loc main_arg1)) :=
  (dats m 0 c).arrAt_eq_of_cover 3 _ (flushed_eq m c) fun i =>
    ⟨tLast, (flush0_3 tLast).mpr rfl, by
      obtain ⟨-, -, -, -, -, -, -, e0, e1⟩ := index_facts tLast
      show i ∈ ((View.whole main_call0_v1).slice (win0_3.rect tLast)).set
      rw [View.set_slice_whole, Rect.mem_set_unit]
      intro a
      have h0 : (i 0 : Nat) < 8 := (i 0).isLt
      have h1 : (i 1 : Nat) < 128 := (i 1).isLt
      match a with
      | ⟨0, _⟩ => show win0_3.index tLast 0 * 8 ≤ (i 0 : Nat) ∧ (i 0 : Nat) < win0_3.index tLast 0 * 8 + 8
                  rw [e0]; omega
      | ⟨1, _⟩ => show win0_3.index tLast 1 * 128 ≤ (i 1 : Nat) ∧ (i 1 : Nat) < win0_3.index tLast 1 * 128 + 128
                  rw [e1]; omega⟩

/-- What the three lines after the region leave in the kernel's result. -/
theorem tail_v0 (W : Valuation τ sig (Elt F)) :
    StableHlo.after ([hostOps1] : List (List (HloOp τ sig (Elt F)))).flatten W (Proc.devRef .tc main_v0)
      = (shapeCast S1 (shapeCast S_ (extractStridedSlice S1x1 ![0, 0] (W (Proc.devRef .tc main_call0_v1) : Vec F S8x128 .f32) slices_S8x128_S1x1_0_0) shapeCasts_S1x1_S_) shapeCasts_S_S1 : Vec F S1 .f32) := by
  after_reads_simp
  rfl

/-- The kernel's run: its result, and the arguments unchanged. -/
theorem run : θ_run defs (onTc (τ := τ) (main (F := F))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, h.2 c⟩) (θ_run_and (run_main m ρ) (unchanged m ρ))
  refine ((h.1 c).2 main_v0 (Pipeline.mem_restRefs_of main_v0 (by decide) (by decide))).trans ?_
  unfold Pipeline.afterTail₀
  have e := Pipeline.withArrays_arr (cfgs 0).spec (by decide) c (V0 m c) (fun w => (dats m 0 c).arrAt w (cfgs 0).N) 3
  generalize Pipeline.withArrays (cfgs 0).spec c (V0 m c) (fun w => (dats m 0 c).arrAt w (cfgs 0).N) = W at e ⊢
  rw [final_o m c] at e
  rw [tail_v0]
  unfold result
  rw [← e]

end Cert.KernelIdeal.Block

end
-- ==== Proof.RowMath.lean ====
/-
  The mathematics of one row: 128 extended reals, their largest, the exponentials over it, and the two ways of reading
  off a confidence and a prediction. Nothing here mentions a program (hand-written).
-/
module

public import proofs.«01_k».proof.Proof.KernelArray
public import Idealize.ShloMosaic.PureOps.Ideal.Laws
public import Mathlib.Data.Prod.Lex

@[expose] public section

noncomputable section

namespace Cert.Row

open Idealize.ShloMosaic

variable (r : Fin 128 → EReal)

/-- The largest entry of a row. -/
def top : EReal := Finset.univ.fold max ⊥ r
/-- The exponential of an entry over the largest. -/
def expo (k : Fin 128) : EReal := Ideal.exp (r k - top r)
/-- The sum of a row's exponentials. -/
def mass : EReal := ∑ k, expo r k
/-- An entry of the row's softmax. -/
def soft (k : Fin 128) : EReal := Ideal.div (expo r k) (mass r)
/-- The confidence as the kernel takes it: one over the sum. -/
def invMass : EReal := Ideal.div 1 (mass r)
/-- The confidence as the reference takes it: the largest of the softmax. -/
def conf : EReal := Finset.univ.fold max ⊥ (soft r)

/-- An entry of a family is at most the family's largest. -/
theorem le_foldMax (v : Fin 128 → EReal) (k : Fin 128) : v k ≤ Finset.univ.fold max ⊥ v :=
  (Finset.le_fold_max _).2 (Or.inr ⟨k, Finset.mem_univ k, le_rfl⟩)

/-- The largest of a family is attained, unless it is `⊥`. -/
theorem foldMax_mem (v : Fin 128 → EReal) : Finset.univ.fold max ⊥ v = ⊥ ∨ ∃ k, v k = Finset.univ.fold max ⊥ v := by
  rcases (Finset.le_fold_max _).1 (le_refl (Finset.univ.fold max ⊥ v)) with h | ⟨k, -, h⟩
  · exact Or.inl (le_bot_iff.1 h)
  · exact Or.inr ⟨k, le_antisymm (le_foldMax v k) h⟩

/-- A row with an infinite largest entry: every exponential is zero. -/
theorem expo_of_infinite (h : top r = ⊥ ∨ top r = ⊤) (k : Fin 128) : expo r k = 0 := by
  have hs : r k - top r = ⊥ := by
    rcases h with h | h
    · have : r k = ⊥ := le_bot_iff.1 (h ▸ le_foldMax r k)
      rw [this, h]; rfl
    · rw [h]; exact EReal.sub_top _
  unfold expo
  rw [hs]; rfl

/-- A row with a finite largest entry: its exponentials are reals from 0 to 1, and 1 exactly at the largest entries. -/
theorem expo_of_finite (m : ℝ) (h : top r = m) (k : Fin 128) :
    ∃ a : ℝ, expo r k = a ∧ 0 ≤ a ∧ a ≤ 1 ∧ (a = 1 ↔ r k = top r) := by
  have hle : r k ≤ top r := le_foldMax r k
  unfold expo
  rw [h] at hle ⊢
  generalize r k = y at hle ⊢
  induction y using EReal.rec with
  | bot =>
    refine ⟨0, ?_, le_rfl, zero_le_one, ?_⟩
    · rw [EReal.bot_sub]; rfl
    · constructor
      · intro e; exact absurd e zero_ne_one
      · intro e; exact absurd e (EReal.bot_ne_coe m)
  | top => exact absurd hle (not_le.2 (EReal.coe_lt_top m))
  | coe x =>
    have hx : x ≤ m := EReal.coe_le_coe_iff.1 hle
    refine ⟨Real.exp (x - m), ?_, (Real.exp_pos _).le, Real.exp_le_one_iff.2 (by linarith), ?_⟩
    · rw [← EReal.coe_sub]; rfl
    · rw [Real.exp_eq_one_iff, EReal.coe_eq_coe_iff, sub_eq_zero]

/-- One row, in two cases. Either its largest entry is finite: the two confidences are one number, and the softmax is
    largest exactly where the row is. Or it is infinite: the kernel's confidence is `⊤` and the reference's `⊥`. -/
theorem row_cases :
    (invMass r = conf r ∧ ⊥ < conf r ∧ (∃ k, r k = top r) ∧ (∀ k, soft r k ≤ conf r) ∧ ∀ k, soft r k = conf r ↔ r k = top r)
    ∨ (invMass r = ⊤ ∧ conf r = ⊥) := by
  by_cases hinf : top r = ⊥ ∨ top r = ⊤
  · right
    have he := expo_of_infinite r hinf
    have hm : mass r = 0 := by unfold mass; simp [he]
    have hp : soft r = fun _ => ⊥ := by funext k; unfold soft; rw [he, hm]; simp [Ideal.div]
    refine ⟨by unfold invMass; rw [hm]; simp [Ideal.div], ?_⟩
    unfold conf
    rw [hp]
    rcases foldMax_mem (fun _ => ⊥) with h | ⟨k, h⟩
    · exact h
    · exact h.symm
  · left
    rw [not_or] at hinf
    lift top r to ℝ using ⟨hinf.2, hinf.1⟩ with m hm
    have hm' : top r = m := hm.symm
    choose a ha h0 h1 hiff using expo_of_finite r m hm'
    obtain ⟨k1, hk1⟩ : ∃ k, r k = top r := by
      rcases foldMax_mem r with h | h
      · exact absurd (hm.trans h) (EReal.coe_ne_bot m)
      · exact h
    have hS : mass r = ((∑ k, a k : ℝ) : EReal) := by
      unfold mass
      refine (Finset.sum_congr rfl fun k _ => ha k).trans ?_
      exact (map_sum (⟨⟨Real.toEReal, EReal.coe_zero⟩, EReal.coe_add⟩ : ℝ →+ EReal) a Finset.univ).symm
    have hS1 : 1 ≤ ∑ k, a k := by
      rw [← (hiff k1).2 hk1]
      exact Finset.single_le_sum (fun k _ => h0 k) (Finset.mem_univ k1)
    have hSp : 0 < ∑ k, a k := lt_of_lt_of_le zero_lt_one hS1
    set S := ∑ k, a k with hSdef
    have hp : ∀ k, soft r k = ((a k * (1 / S) : ℝ) : EReal) := fun k => by
      unfold soft
      rw [ha, hS, Ideal.div_coe hSp.ne', EReal.coe_mul]
    have hk : invMass r = ((1 / S : ℝ) : EReal) := by
      unfold invMass
      rw [hS, Ideal.div_coe hSp.ne', one_mul]
    have hinv : 0 < 1 / S := by positivity
    have hc : conf r = ((1 / S : ℝ) : EReal) := by
      unfold conf
      apply le_antisymm
      · rw [Finset.fold_max_le]
        refine ⟨bot_le, fun k _ => ?_⟩
        rw [hp, EReal.coe_le_coe_iff]
        exact mul_le_of_le_one_left hinv.le (h1 k)
      · have := le_foldMax (soft r) k1
        rw [hp, (hiff k1).2 hk1, one_mul] at this
        exact this
    refine ⟨hk.trans hc.symm, hc ▸ EReal.bot_lt_coe _, ⟨k1, hm' ▸ hk1⟩, fun k => le_foldMax (soft r) k, fun k => ?_⟩
    rw [hp, hc, EReal.coe_eq_coe_iff, mul_eq_right₀ hinv.ne', hiff k, hm']

/-! ## The two predictions -/

/-- The words of the 128 class numbers are apart, and read signed they are the numbers. -/
theorem toInt_class (k : Fin 128) : (BitVec.ofNat 32 k.val).toInt = (k.val : ℤ) := by
  have h := k.isLt
  rw [BitVec.toInt_eq_toNat_of_lt] <;> rw [BitVec.toNat_ofNat] <;> omega

/-- The smaller of two words read signed, as an integer. -/
theorem toInt_minsi (x y : BitVec 32) : (IntOp.minsi x y).toInt = min x.toInt y.toInt := by
  unfold IntOp.minsi
  simp only [BitVec.slt, decide_eq_true_eq]
  split <;> omega

/-- The signed minimum, over the classes, of the class number where `P` holds and 128 elsewhere, is the first class where
    `P` holds. -/
theorem min_fold (P : Fin 128 → Prop) [DecidablePred P] (k0 : Fin 128) (h0 : P k0) (hmin : ∀ k, P k → k0 ≤ k) :
    Finset.univ.fold IntOp.minsi 2147483647#32 (fun k : Fin 128 => if P k then BitVec.ofNat 32 k.val else 128#32) = BitVec.ofNat 32 k0.val := by
  apply BitVec.eq_of_toInt_eq
  have key : ∀ s : Finset (Fin 128), (s.fold IntOp.minsi 2147483647#32 (fun k : Fin 128 => if P k then BitVec.ofNat 32 k.val else 128#32)).toInt
      = s.fold min 2147483647 (fun k : Fin 128 => if P k then (k.val : ℤ) else 128) := by
    intro s
    refine Finset.fold_hom (m := BitVec.toInt) toInt_minsi |>.symm.trans ?_
    congr 1
    funext k
    split
    · exact toInt_class k
    · rfl
  rw [key, toInt_class]
  apply le_antisymm
  · refine (Finset.fold_min_le _).2 (Or.inr ⟨k0, Finset.mem_univ k0, ?_⟩)
    rw [if_pos h0]
  · rw [Finset.le_fold_min]
    have h := k0.isLt
    refine ⟨by omega, fun k _ => ?_⟩
    split
    · next hk => have := hmin k hk; have : k0.val ≤ k.val := this; omega
    · omega

/-- What a (value, class) pair is ordered by: its value first, then its class, the smaller the better. -/
def key (a : EReal × BitVec 32) : EReal ×ₗ ℤ := toLex (a.1, -a.2.toInt)

/-- A left fold that keeps the better of two pairs ends at one of its pairs, and at none worse than another. -/
theorem foldl_better (f : EReal × BitVec 32 → EReal × BitVec 32 → EReal × BitVec 32)
    (hf : ∀ a b, f a b = if key b < key a then a else b) :
    ∀ (L : List (EReal × BitVec 32)) (i : EReal × BitVec 32),
      (L.foldl f i = i ∨ L.foldl f i ∈ L) ∧ key i ≤ key (L.foldl f i) ∧ ∀ q ∈ L, key q ≤ key (L.foldl f i)
  | [], i => ⟨Or.inl rfl, le_rfl, fun q h => absurd h (List.not_mem_nil)⟩
  | b :: L, i => by
    obtain ⟨h1, h2, h3⟩ := foldl_better f hf L (f i b)
    rw [List.foldl_cons]
    generalize L.foldl f (f i b) = z at h1 h2 h3 ⊢
    rw [hf] at h1 h2
    split at h1
    · next hlt =>
      rw [if_pos hlt] at h2
      refine ⟨h1.imp id (List.mem_cons_of_mem b), h2, fun q hq => ?_⟩
      rcases List.mem_cons.1 hq with rfl | hq
      · exact hlt.le.trans h2
      · exact h3 q hq
    · next hlt =>
      rw [if_neg hlt] at h2
      refine ⟨Or.inr ?_, (not_lt.1 hlt).trans h2, fun q hq => ?_⟩
      · rcases h1 with rfl | h1
        · exact List.mem_cons_self
        · exact List.mem_cons_of_mem b h1
      · rcases List.mem_cons.1 hq with rfl | hq
        · exact h2
        · exact h3 q hq

/-- The better-of-two fold over the pairs (value, class) of a row, from the pair (`⊥`, 0), ends at the first class whose
    value is the largest, provided that one is above `⊥`. -/
theorem argmax_fold (v : Fin 128 → EReal) (M : EReal) (hM : ⊥ < M) (hle : ∀ k, v k ≤ M) (k0 : Fin 128) (h0 : v k0 = M)
    (hmin : ∀ k, v k = M → k0 ≤ k) (f : EReal × BitVec 32 → EReal × BitVec 32 → EReal × BitVec 32)
    (hf : ∀ a b, f a b = if key b < key a then a else b) (L : List (EReal × BitVec 32))
    (hL : ∀ q, q ∈ L ↔ ∃ k : Fin 128, q = (v k, BitVec.ofNat 32 k.val)) (i : BitVec 32) :
    (L.foldl f (⊥, i)).2 = BitVec.ofNat 32 k0.val := by
  obtain ⟨h1, -, h3⟩ := foldl_better f hf L (⊥, i)
  have hbest := h3 (v k0, BitVec.ofNat 32 k0.val) ((hL _).2 ⟨k0, rfl⟩)
  generalize L.foldl f (⊥, i) = z at h1 hbest ⊢
  unfold key at hbest
  rw [Prod.Lex.toLex_le_toLex, h0] at hbest
  rcases h1 with rfl | h1
  · rcases hbest with h | ⟨h, -⟩
    · exact absurd h not_lt_bot
    · exact absurd h hM.ne'
  · obtain ⟨k, rfl⟩ := (hL z).1 h1
    rcases hbest with h | ⟨h, h'⟩
    · exact absurd h (not_lt.2 (hle k))
    · have hk := hmin k h.symm
      have hk' : k0.val ≤ k.val := hk
      dsimp only at h'
      rw [toInt_class, toInt_class] at h'
      rw [show k = k0 from Fin.ext (by omega)]

/-- The first class where a decidable property that holds somewhere holds. -/
theorem exists_first (P : Fin 128 → Prop) (h : ∃ k, P k) : ∃ k0, P k0 ∧ ∀ k, P k → k0 ≤ k := by
  classical
  obtain ⟨k, hk⟩ := h
  obtain ⟨k0, h0, hmin⟩ := WellFounded.has_min (wellFounded_lt (α := Fin 128)) {k | P k} ⟨k, hk⟩
  exact ⟨k0, h0, fun k hk => not_lt.1 (hmin k hk)⟩

end Cert.Row

end
-- ==== Proof.RefForms.lean ====
/-
  What the reference computes, read at a row and at a bin: the mathematics of one row, and sums over the rows
  (hand-written).
-/
module

public import proofs.«01_k».proof.Proof.RowMath

@[expose] public section

noncomputable section

namespace Cert.ReferenceIdeal.Run

open Cert.ReferenceIdeal Cert.ReferenceIdeal.Gen Idealize.ShloMosaic

/-- Row `a` of the logits. -/
def row (x : FVec Ideal S1048576x128 .f32) (a : Fin 1048576) : Fin 128 → EReal := fun k => x (ix2 a k)

/-- The reductions over the classes leave one number per row. -/
theorem reduces_rows : S1048576x128.Reduces [1] S1048576 := by decide

/-- The index over row `j` with class `k` inserted. -/
theorem lift_rows (j : S1048576.Idx) (k : Fin 128) : reduces_rows.lift j k = ix2 (j 0) k := by
  funext b
  apply Fin.ext
  show reduces_rows.liftVal j k.val b = _
  match b with
  | ⟨0, _⟩ => rfl
  | ⟨1, _⟩ => rfl

/-- The word of minus infinity. -/
theorem ofBits_negInf : Ideal.ofBits .f32 0xFF800000#32 = ⊥ := by
  unfold Ideal.ofBits Ideal.ieee
  simp

/-- A maximum over the classes. -/
theorem rowFold_apply (x : FVec Ideal S1048576x128 .f32) (j : S1048576.Idx) :
    Host.reduce FloatOps.maximumf x (constant S_ .f32 0xFF800000#32) reducesTo_S1048576x128_S1048576_d1 h_S_ j
      = Finset.univ.fold max ⊥ fun k : Fin 128 => x (ix2 (j 0) k) := by
  rw [Host.reduce_eq_fold_single _ _ _ _ reduces_rows, constant_apply]
  have e : (x ∘ reduces_rows.lift j) = fun k : Fin 128 => x (ix2 (j 0) k) := funext fun k => congrArg x (lift_rows j k)
  rw [e]
  exact congrArg (fun b => Finset.univ.fold max b fun k : Fin 128 => x (ix2 (j 0) k)) ofBits_negInf

/-- The row maxima. -/
theorem rowMax_apply (x : FVec Ideal S1048576x128 .f32) (j : S1048576.Idx) : rowMax x j = Row.top (row x (j 0)) := by
  unfold rowMax
  rw [maximumf_apply, rowFold_apply]
  exact (congrArg (fun b => max b (Row.top (row x (j 0)))) ofBits_negInf).trans (max_eq_right bot_le)

/-- A value per row, spread. -/
theorem spread_apply (y : FVec Ideal S1048576 .f32) (i : S1048576x128.Idx) : spread y i = y (ix1 (i 0)) := by
  refine congrArg y (funext fun b => ?_)
  match b with
  | ⟨0, _⟩ => rfl

/-- The exponentials. -/
theorem expo_apply (x : FVec Ideal S1048576x128 .f32) (a : Fin 1048576) (k : Fin 128) : expo x (ix2 a k) = Row.expo (row x a) k := by
  show Ideal.exp (x (ix2 a k) - spread (rowMax x) (ix2 a k)) = _
  rw [spread_apply, rowMax_apply]
  rfl

/-- A sum over the classes. -/
theorem rowSum_apply (x : FVec Ideal S1048576x128 .f32) (j : S1048576.Idx) :
    Host.reduceAdd x (constant S_ .f32 0x00000000#32) reducesTo_S1048576x128_S1048576_d1 h_S_ j = ∑ k : Fin 128, x (ix2 (j 0) k) := by
  show Ideal.hostReduceAdd reducesTo_S1048576x128_S1048576_d1 x (Ideal.ofBits .f32 0x00000000#32) j = _
  rw [Ideal.hostReduceAdd_single _ reduces_rows, Ideal.ofBits_zero_f32, zero_add]
  exact Finset.sum_congr rfl fun k _ => congrArg x (lift_rows j k)

/-- The softmax. -/
theorem soft_apply (x : FVec Ideal S1048576x128 .f32) (a : Fin 1048576) (k : Fin 128) : soft x (ix2 a k) = Row.soft (row x a) k := by
  unfold soft
  rw [Host.divf_apply, spread_apply, rowSum_apply, expo_apply]
  have e : (∑ k : Fin 128, expo x (ix2 a k)) = Row.mass (row x a) := Finset.sum_congr rfl fun k _ => expo_apply x a k
  exact congrArg (Ideal.div (Row.expo (row x a) k)) e

/-- The confidences. -/
theorem conf_apply (x : FVec Ideal S1048576x128 .f32) (j : S1048576.Idx) : conf x j = Row.conf (row x (j 0)) := by
  unfold conf
  rw [rowFold_apply]
  exact congrArg (fun v => Finset.univ.fold max ⊥ v) (funext fun k => soft_apply x (j 0) k)

end Cert.ReferenceIdeal.Run

end
-- ==== Proof.RefPred.lean ====
module
public import proofs.«01_k».proof.Proof.RefForms
@[expose] public section
noncomputable section

namespace Cert.ReferenceIdeal.Run

open Cert.ReferenceIdeal Cert.ReferenceIdeal.Gen Idealize.ShloMosaic

/-! ## The predictions -/

/-- A two-operand maximum step keeps the better pair: the larger value, and of equal values the smaller index. -/
theorem reducer_better (a b : EReal × BitVec 32) :
    reducer_argmax_f32_i32 (F := Ideal) a b = if Row.key b < Row.key a then a else b := by
  obtain ⟨a1, a2⟩ := a
  obtain ⟨b1, b2⟩ := b
  unfold reducer_argmax_f32_i32 Row.key
  simp only [Ideal.cmpf_def, Ideal.cmp, IntOp.cmpi, IntOp.ori, IntOp.andi, Scalar.select, Prod.Lex.toLex_lt_toLex, BitVec.slt]
  rcases lt_trichotomy a1 b1 with h | h | h
  · have h1 : ¬ b1 < a1 := not_lt.2 h.le
    have h2 : ¬ a1 = b1 := h.ne
    simp [h1, h2, h.ne']
  · subst h
    by_cases h3 : a2.toInt < b2.toInt <;> simp [h3]
  · have h2 : ¬ a1 = b1 := h.ne'
    simp [h, h2]

/-- The pairs that the maximum step goes over, at any index left by the reduction. -/
theorem mem_fiber {s r : Shape} {dims : List (Fin s.rank)} {α β : Type} (x : s.Idx → α) (y : s.Idx → β) (h : s.ReducesTo dims r)
    (j : r.Idx) (q : α × β) : q ∈ Host.argReduceFiber x y h j ↔ ∃ i : s.Idx, h.drop i = j ∧ q = (x i, y i) := by
  unfold Host.argReduceFiber
  rw [List.mem_map]
  constructor
  · rintro ⟨n, hn, rfl⟩
    exact ⟨_, of_decide_eq_true (List.mem_filter.1 hn).2, rfl⟩
  · rintro ⟨i, hi, rfl⟩
    refine ⟨s.rowMajor i, List.mem_filter.2 ⟨List.mem_finRange _, decide_eq_true ?_⟩, ?_⟩
    · rw [Equiv.symm_apply_apply, hi]
    · rw [Equiv.symm_apply_apply]

/-- A maximum with its index, at an index left by the reduction: the fold of its step over the pairs there. -/
theorem argReduce_foldl {s t u : Shape} {axes : List (Fin s.rank)} {φ : FTy} {β : Type}
    (f : Ideal φ × β → Ideal φ × β → Ideal φ × β) (x : FVec Ideal s φ) (y : s.Idx → β) (ix : u.Idx → Ideal φ)
    (iy : u.Idx → β) (h : s.ReducesTo axes t) (hu : 0 < u.numel) (j : t.Idx) :
    Host.argReduce f x y ix iy h hu j
      = (Host.argReduceFiber x y h j).foldl f (ix (Shape.Idx.first hu), iy (Shape.Idx.first hu)) :=
  (congrFun (Ideal.argReduce_eq_reduce2 f x y ix iy h hu) j).trans (Host.reduce2_eq_foldl_fiber f x y ix iy h hu j)

/-- An index of the logits reduces to its row. -/
theorem drop_row (i : S1048576x128.Idx) (a : Fin 1048576) :
    reducesTo_S1048576x128_S1048576_d1.drop i = ix1 a ↔ ∃ k : Fin 128, i = ix2 a k := by
  have e : reducesTo_S1048576x128_S1048576_d1.drop i = reduces_rows.drop i := rfl
  rw [e]
  constructor
  · intro h
    have h2 := reduces_rows.lift_drop i
    rw [h] at h2
    exact ⟨_, h2.symm.trans (lift_rows (ix1 a) _)⟩
  · rintro ⟨k, rfl⟩
    exact (congrArg reduces_rows.drop (lift_rows (ix1 a) k).symm).trans (reduces_rows.drop_lift (ix1 a) k)

/-- The pairs of a row that the maximum step goes over. -/
theorem mem_pairs (x : FVec Ideal S1048576x128 .f32) (a : Fin 1048576) (q : EReal × BitVec 32) :
    q ∈ Host.argReduceFiber (soft x) (iotaInDim S1048576x128 32 1) reducesTo_S1048576x128_S1048576_d1 (ix1 a)
      ↔ ∃ k : Fin 128, q = (Row.soft (row x a) k, BitVec.ofNat 32 k.val) := by
  refine (mem_fiber _ _ _ _ q).trans ⟨?_, ?_⟩
  · rintro ⟨i, hd, hq⟩
    obtain ⟨k, rfl⟩ := (drop_row i a).1 hd
    exact ⟨k, hq.trans (Prod.ext (soft_apply x a k) rfl)⟩
  · rintro ⟨k, hq⟩
    exact ⟨ix2 a k, (drop_row _ a).2 ⟨k, rfl⟩, hq.trans (Prod.ext (soft_apply x a k).symm rfl)⟩

/-- The predictions are the second halves of folds over the pairs of each row. -/
theorem pred_foldl (x : FVec Ideal S1048576x128 .f32) : ∃ g : S1048576.Idx → EReal × BitVec 32,
    (pred x = fun j => (g j).2) ∧
    ∀ j, g j = (Host.argReduceFiber (soft x) (iotaInDim S1048576x128 32 1) reducesTo_S1048576x128_S1048576_d1 j).foldl
      (reducer_argmax_f32_i32 (F := Ideal))
      (constant (F := Ideal) S_ .f32 0xFF800000#32 (Shape.Idx.first h_S_), constantI S_ 32 0#32 (Shape.Idx.first h_S_)) :=
  ⟨Host.argReduce reducer_argmax_f32_i32 (soft x) (iotaInDim S1048576x128 32 1) (constant S_ .f32 0xFF800000#32)
      (constantI S_ 32 0#32) reducesTo_S1048576x128_S1048576_d1 h_S_,
    by delta pred; rfl,
    fun j => argReduce_foldl _ _ _ _ _ _ _ j⟩

/-- The prediction of a row with a finite largest entry: the first class where the row is largest. -/
theorem pred_apply (x : FVec Ideal S1048576x128 .f32) (a : Fin 1048576) (k0 : Fin 128)
    (hM : ⊥ < Row.conf (row x a)) (hle : ∀ k, Row.soft (row x a) k ≤ Row.conf (row x a))
    (h0 : Row.soft (row x a) k0 = Row.conf (row x a))
    (hmin : ∀ k, Row.soft (row x a) k = Row.conf (row x a) → k0 ≤ k) : pred x (ix1 a) = BitVec.ofNat 32 k0.val := by
  obtain ⟨g, hp, hg⟩ := pred_foldl x
  have h := hg (ix1 a)
  have hL := mem_pairs x a
  generalize Host.argReduceFiber (soft x) (iotaInDim S1048576x128 32 1) reducesTo_S1048576x128_S1048576_d1 (ix1 a) = L at h hL
  have e : (constant (F := Ideal) S_ .f32 0xFF800000#32 (Shape.Idx.first h_S_), constantI S_ 32 0#32 (Shape.Idx.first h_S_))
      = ((⊥ : EReal), 0#32) := Prod.ext ofBits_negInf rfl
  refine (congrFun hp (ix1 a)).trans ?_
  exact (congrArg Prod.snd (h.trans (congrArg (fun p => L.foldl (reducer_argmax_f32_i32 (F := Ideal)) p) e))).trans
    (Row.argmax_fold (Row.soft (row x a)) _ hM hle k0 h0 hmin _ reducer_better L hL _)

end Cert.ReferenceIdeal.Run

end
-- ==== Proof.RefBins.lean ====
module
public import proofs.«01_k».proof.Proof.RefPred
@[expose] public section
noncomputable section

namespace Cert.ReferenceIdeal.Run

open Cert.ReferenceIdeal Cert.ReferenceIdeal.Gen Idealize.ShloMosaic

/-! ## The bins -/

/-- A bit as a number. -/
def bit (b : Prop) [Decidable b] : EReal := if b then 1 else 0

/-- A one-bit word read unsigned. -/
theorem uitofp_ofBool (b : Bool) : (FloatOps.uitofp .f32 (BitVec.ofBool b) : Ideal .f32) = if b then (1 : EReal) else 0 := by
  cases b
  · show (((BitVec.ofBool false).toNat : ℝ) : EReal) = _; simp
  · show (((BitVec.ofBool true).toNat : ℝ) : EReal) = _; simp

/-- Where two vectors of words agree, as numbers. -/
theorem agree_apply (p l : IVec S1048576 32) (j : S1048576.Idx) :
    (uitofp .f32 (cmpi .eq p l) : FVec Ideal S1048576 .f32) j = bit (p j = l j) := by
  rw [uitofp_apply]
  show FloatOps.uitofp .f32 (BitVec.ofBool (p j == l j)) = _
  rw [uitofp_ofBool]
  unfold bit
  simp only [beq_iff_eq]

/-- The accuracies. -/
theorem accu_apply (x : FVec Ideal S1048576x128 .f32) (l : IVec S1048576 32) (j : S1048576.Idx) :
    accu x l j = bit (pred x j = l j) := by
  unfold accu
  exact agree_apply (pred x) l j

/-- Which rows fall in a bin. -/
theorem inBin_apply (cf : FVec Ideal S1048576 .f32) (lo hi : FVec Ideal S_ .f32) (j : S1048576.Idx) :
    inBin cf lo hi j = bit (lo ix0 < cf j ∧ cf j ≤ hi ix0) := by
  unfold inBin
  rw [uitofp_apply]
  have e0 (y : FVec Ideal S_ .f32) : broadcastInDim S1048576 ![] bcast_S_S1048576 y j = y ix0 :=
    congrArg y (funext fun a => a.elim0)
  show FloatOps.uitofp .f32 (IntOp.andi
    (BitVec.ofBool (decide (broadcastInDim S1048576 ![] bcast_S_S1048576 lo j < cf j)))
    (BitVec.ofBool (decide (cf j ≤ broadcastInDim S1048576 ![] bcast_S_S1048576 hi j)))) = _
  rw [e0, e0]
  have e : IntOp.andi (BitVec.ofBool (decide (lo ix0 < cf j))) (BitVec.ofBool (decide (cf j ≤ hi ix0)))
      = BitVec.ofBool (decide (lo ix0 < cf j ∧ cf j ≤ hi ix0)) := by
    unfold IntOp.andi
    by_cases h1 : lo ix0 < cf j <;> by_cases h2 : cf j ≤ hi ix0 <;> simp [h1, h2]
  rw [e, uitofp_ofBool]
  unfold bit
  simp only [decide_eq_true_eq]

/-- A sum over the rows. -/
theorem total_apply (y : FVec Ideal S1048576 .f32) : total y ix0 = ∑ a : Fin 1048576, y (ix1 a) := by
  unfold total
  show Ideal.hostReduceAdd reducesTo_S1048576_S_d0 y (Ideal.ofBits .f32 0x00000000#32) ix0 = _
  rw [Ideal.hostReduceAdd_total _ (fun b => b.elim0), Ideal.ofBits_zero_f32, zero_add]
  exact sum_idx1 y

/-- A bin's term from its three sums: how many rows, the sum of their confidences, the sum of their accuracies. -/
def binTerm (n c a : EReal) : EReal :=
  if 0 < Ideal.div n (Ideal.ofBits .f32 0x49800000#32) then
    max (Ideal.div c (max n 1) - Ideal.div a (max n 1)) (-(Ideal.div c (max n 1) - Ideal.div a (max n 1)))
      * Ideal.div n (Ideal.ofBits .f32 0x49800000#32)
  else 0

/-- A bin's term. -/
theorem gap_apply (cf ac ind : FVec Ideal S1048576 .f32) :
    gap cf ac ind ix0 = binTerm (total ind ix0) (total (mulf cf ind) ix0) (total (mulf ac ind) ix0) := by
  unfold gap binTerm
  rw [← Ideal.ofBits_zero_f32, ← Ideal.ofBits_one_f32]
  generalize total ind = n
  generalize total (mulf cf ind) = c
  generalize total (mulf ac ind) = a
  show Scalar.select (BitVec.ofBool (decide (Ideal.ofBits .f32 0x00000000#32 < Ideal.div (n ix0) (Ideal.ofBits .f32 0x49800000#32)))) _ _ = _
  unfold Scalar.select
  by_cases h : Ideal.ofBits .f32 0x00000000#32 < Ideal.div (n ix0) (Ideal.ofBits .f32 0x49800000#32)
  · rw [if_pos h, decide_eq_true h, if_pos (by decide : BitVec.ofBool true = 1), mulf_apply, Host.absf_apply, subf_apply,
      Host.divf_apply, Host.divf_apply, Host.divf_apply, maximumf_apply, constant_apply, constant_apply]
    rfl
  · rw [if_neg h, decide_eq_false h, if_neg (by decide : ¬ BitVec.ofBool false = 1)]; rfl

/-- The running sum over the bins is the sum of their terms. -/
theorem partialSum_apply (cf ac : FVec Ideal S1048576 .f32) (i : S1.Idx) :
    ∀ n (h : n ≤ 16), partialSum cf ac n h i = ∑ k : Fin n, term cf ac (k.castLE h) ix0
  | 0, h => by
    show Ideal.ofBits .f32 0x00000000#32 = _
    rw [Ideal.ofBits_zero_f32]
    rfl
  | n + 1, h => by
    rw [Fin.sum_univ_castSucc]
    unfold partialSum
    rw [addf_apply, partialSum_apply cf ac i n (Nat.le_of_succ_le h)]
    exact congrArg (_ + ·) (congrArg (term cf ac ⟨n, h⟩) (funext fun a => a.elim0))

/-- The lower edge of a bin. -/
def lo (k : Fin 16) : EReal := Ideal.ofBits .f32 (rounds k).loWord
/-- The upper edge of a bin. -/
def hi (k : Fin 16) : EReal := Ideal.ofBits .f32 (rounds k).hiWord

/-- The reference's result: the sum over the bins of the terms of their sums over the rows. -/
theorem result_apply (x : FVec Ideal S1048576x128 .f32) (l : IVec S1048576 32) (i : S1.Idx) :
    result x l i = ∑ k : Fin 16, binTerm
      (∑ a : Fin 1048576, bit (lo k < Row.conf (row x a) ∧ Row.conf (row x a) ≤ hi k))
      (∑ a : Fin 1048576, Row.conf (row x a) * bit (lo k < Row.conf (row x a) ∧ Row.conf (row x a) ≤ hi k))
      (∑ a : Fin 1048576, bit (pred x (ix1 a) = l (ix1 a)) * bit (lo k < Row.conf (row x a) ∧ Row.conf (row x a) ≤ hi k)) := by
  have hin (k : Fin 16) (a : Fin 1048576) :
      inBin (conf x) (constant S_ .f32 (rounds k).loWord) (constant S_ .f32 (rounds k).hiWord) (ix1 a)
        = bit (lo k < Row.conf (row x a) ∧ Row.conf (row x a) ≤ hi k) := by
    rw [inBin_apply, conf_apply]
    rfl
  have hc (a : Fin 1048576) : conf x (ix1 a) = Row.conf (row x a) := conf_apply x (ix1 a)
  unfold result
  rw [partialSum_apply]
  refine Finset.sum_congr rfl fun k _ => ?_
  have ek : k.castLE (le_refl 16) = k := rfl
  rw [ek]
  unfold term
  rw [gap_apply, total_apply, total_apply, total_apply]
  rw [Finset.sum_congr rfl fun a _ => hin k a]
  rw [Finset.sum_congr rfl fun a _ => (mulf_apply (conf x) _ (ix1 a)).trans (congrArg₂ (· * ·) (hc a) (hin k a))]
  rw [Finset.sum_congr rfl fun a _ => (mulf_apply (accu x l) _ (ix1 a)).trans (congrArg₂ (· * ·) (accu_apply x l (ix1 a)) (hin k a))]

end Cert.ReferenceIdeal.Run

end
-- ==== Proof.KernelForms.lean ====
/-
  What one grid point of the kernel adds to the three accumulators, read at a bin: sums over the rows of its block
  (hand-written).
-/
module

public import proofs.«01_k».proof.Proof.RefBins
public import proofs.«01_k».proof.Proof.KernelArray

@[expose] public section

noncomputable section

namespace Cert.KernelIdeal.Block

open Cert.KernelIdeal Cert.KernelIdeal.Gen Idealize.ShloMosaic
open Cert.ReferenceIdeal.Run (bit binTerm)

/-- Row `r` of a block of logits. -/
def brow (x : FVec Ideal S4096x128 .f32) (r : Fin 4096) : Fin 128 → EReal := fun k => x (ix2 r k)

/-- A one-bit word, widened and read signed. -/
theorem sitofp_ofBool (b : Bool) :
    (FloatOps.sitofp .f32 (BitVec.setWidth 32 (BitVec.ofBool b)) : Ideal .f32) = if b then (1 : EReal) else 0 := by
  cases b
  · show (((BitVec.setWidth 32 (BitVec.ofBool false)).toInt : ℝ) : EReal) = _; simp
  · show (((BitVec.setWidth 32 (BitVec.ofBool true)).toInt : ℝ) : EReal) = _; simp

/-- The kernel's row maxima. -/
theorem pay8_apply (x : FVec Ideal S4096x128 .f32) (r : Fin 4096) (q : Fin 1) : (k0_pay8 (F := Ideal) x (ix2 r q) : EReal) = Row.top (brow x r) := by
  pointwise [k0_pay8]
  rw [show Ideal.ofBits .f32 4286578688#32 = ⊥ from Cert.ReferenceIdeal.Run.ofBits_negInf]
  rfl

/-- The kernel's confidences. -/
theorem pay9_apply (x : FVec Ideal S4096x128 .f32) (r : Fin 4096) (q : Fin 1) : (k0_pay9 (F := Ideal) x (ix2 r q) : EReal) = Row.invMass (brow x r) := by
  pointwise [k0_pay9]
  simp only [pay8_apply]
  rfl

/-- The kernel's first largest class of a row: the smallest of the classes where the row is largest, or 128 if none is. -/
def first (r : Fin 128 → EReal) : BitVec 32 :=
  Finset.univ.fold IntOp.minsi (2147483647#32) (fun k : Fin 128 => if r k = Row.top r then BitVec.ofNat 32 k.val else 128#32)

/-- The kernel's accuracies. -/
theorem pay10_apply (x : FVec Ideal S4096x128 .f32) (l : IVec S1x1x4096 32) (r : Fin 4096) :
    (k0_pay10 (F := Ideal) x l (ix1 r) : EReal) = bit (first (brow x r) = l (ix3 0 0 r)) := by
  pointwise [k0_pay10]
  simp only [pay8_apply]
  show FloatOps.sitofp .f32 (BitVec.setWidth 32 (BitVec.ofBool (first (brow x r) == l (ix3 0 0 r)))) = _
  rw [sitofp_ofBool]
  unfold bit
  simp only [beq_iff_eq]

/-- Which rows of a block fall in which bin. -/
theorem pay11_apply (x : FVec Ideal S4096x128 .f32) (lo hi : FVec Ideal S1x16 .f32) (r : Fin 4096) (k : Fin 16) :
    (k0_pay11 (F := Ideal) x lo hi (ix2 r k) : EReal) = bit (lo (ix2 0 k) < Row.invMass (brow x r) ∧ Row.invMass (brow x r) ≤ hi (ix2 0 k)) := by
  pointwise [k0_pay11]
  rw [pay9_apply]
  have e : IntOp.andi (BitVec.ofBool (decide (lo (ix2 0 k) < Row.invMass (brow x r)))) (BitVec.ofBool (decide (Row.invMass (brow x r) ≤ hi (ix2 0 k))))
      = BitVec.ofBool (decide (lo (ix2 0 k) < Row.invMass (brow x r) ∧ Row.invMass (brow x r) ≤ hi (ix2 0 k))) := by
    unfold IntOp.andi
    by_cases h1 : lo (ix2 0 k) < Row.invMass (brow x r) <;> by_cases h2 : Row.invMass (brow x r) ≤ hi (ix2 0 k) <;> simp [h1, h2]
  rw [e, sitofp_ofBool]
  unfold bit
  simp only [decide_eq_true_eq]

/-- What a block adds to the counts. -/
theorem newCnt_apply (x : FVec Ideal S4096x128 .f32) (e : FVec Ideal S2x16 .f32) (s : FVec Ideal S1x16 .f32) (k : Fin 16) :
    (newCnt (F := Ideal) x e s (ix2 0 k) : EReal) = s (ix2 0 k) + ∑ r : Fin 4096,
      bit ((loRow (F := Ideal) e (ix2 0 k) : EReal) < Row.invMass (brow x r) ∧ Row.invMass (brow x r) ≤ (hiRow (F := Ideal) e (ix2 0 k) : EReal)) := by
  unfold newCnt
  pointwise [k0_pay1, k0_pay12]
  simp only [pay11_apply]

/-- What a block adds to the confidence sums. -/
theorem newConf_apply (x : FVec Ideal S4096x128 .f32) (e : FVec Ideal S2x16 .f32) (s : FVec Ideal S1x16 .f32) (k : Fin 16) :
    (newConf (F := Ideal) x e s (ix2 0 k) : EReal) = s (ix2 0 k) + ∑ r : Fin 4096,
      bit ((loRow (F := Ideal) e (ix2 0 k) : EReal) < Row.invMass (brow x r) ∧ Row.invMass (brow x r) ≤ (hiRow (F := Ideal) e (ix2 0 k) : EReal)) * Row.invMass (brow x r) := by
  unfold newConf
  pointwise [k0_pay2]
  simp only [pay11_apply, pay9_apply]

/-- What a block adds to the accuracy sums. -/
theorem newAcc_apply (x : FVec Ideal S4096x128 .f32) (l : IVec S1x1x4096 32) (e : FVec Ideal S2x16 .f32) (s : FVec Ideal S1x16 .f32)
    (k : Fin 16) : (newAcc (F := Ideal) x l e s (ix2 0 k) : EReal) = s (ix2 0 k) + ∑ r : Fin 4096,
      bit ((loRow (F := Ideal) e (ix2 0 k) : EReal) < Row.invMass (brow x r) ∧ Row.invMass (brow x r) ≤ (hiRow (F := Ideal) e (ix2 0 k) : EReal))
        * bit (first (brow x r) = l (ix3 0 0 r)) := by
  unfold newAcc
  pointwise [k0_pay3]
  simp only [pay11_apply, pay10_apply]

/-- The first row of the kernel's table of edges holds the lower edges of the bins. -/
theorem loRow_edges (k : Fin 16) : (loRow (F := Ideal) edges (ix2 0 k) : EReal) = Cert.ReferenceIdeal.Run.lo k := by
  unfold Cert.ReferenceIdeal.Run.lo
  fin_cases k <;> rfl

/-- Its second row holds the upper edges. -/
theorem hiRow_edges (k : Fin 16) : (hiRow (F := Ideal) edges (ix2 0 k) : EReal) = Cert.ReferenceIdeal.Run.hi k := by
  unfold Cert.ReferenceIdeal.Run.hi
  fin_cases k <;> rfl

/-- The word of 2 to the 20, as a number. -/
theorem ofBits_rows : Ideal.ofBits .f32 0x49800000#32 = ((1048576 : ℝ) : EReal) := by
  unfold Ideal.ofBits Ideal.ieee
  simp
  rw [← EReal.coe_mul]
  norm_num

/-- The word of its inverse. -/
theorem ofBits_invRows : Ideal.ofBits .f32 0x35800000#32 = ((1 / 1048576 : ℝ) : EReal) := by
  unfold Ideal.ofBits Ideal.ieee
  simp
  rw [← EReal.coe_mul]
  norm_num

/-- Multiplying by the inverse of the number of rows is dividing by it. -/
theorem share (n : EReal) : n * Ideal.ofBits .f32 0x35800000#32 = Ideal.div n (Ideal.ofBits .f32 0x49800000#32) := by
  rw [ofBits_rows, ofBits_invRows, Ideal.div_coe (by norm_num)]

/-- The closing formula: the terms of the bins, added. -/
theorem pay4_apply (n c a : FVec Ideal S1x16 .f32) (p : Fin 8) (q : Fin 128) :
    (k0_pay4 (F := Ideal) n c a (ix2 p q) : EReal) = ∑ k : Fin 16, binTerm (n (ix2 0 k)) (c (ix2 0 k)) (a (ix2 0 k)) := by
  pointwise [k0_pay4]
  rw [Fin.sum_univ_one]
  refine Finset.sum_congr rfl fun k _ => ?_
  rw [show (n (ix2 0 k) : EReal) * Ideal.ofBits .f32 897581056#32 = _ from share (n (ix2 0 k))]
  rfl

end Cert.KernelIdeal.Block

end
-- ==== Proof.Equation.lean ====
/-
  The kernel's result is the reference's: row by row the same indicators, and the same sums over all rows
  (hand-written).
-/
module

public import proofs.«01_k».proof.Proof.KernelForms

@[expose] public section

noncomputable section

namespace Cert.KernelIdeal.Block

open Cert.KernelIdeal Cert.KernelIdeal.Gen Idealize.ShloMosaic
open Cert.ReferenceIdeal.Run (bit binTerm lo hi row pred)

/-- No upper edge is infinite. -/
theorem hi_lt_top (k : Fin 16) : hi k < ⊤ := by
  rw [lt_top_iff_ne_top]
  unfold hi Ideal.ofBits Ideal.ieee
  fin_cases k <;> simp [← EReal.coe_mul, -EReal.coe_mul]

/-- Whether a row is in bin `k`, as the reference decides it. -/
def isIn (r : Fin 128 → EReal) (k : Fin 16) : EReal := bit (lo k < Row.conf r ∧ Row.conf r ≤ hi k)

/-- In one row kernel and reference agree: on the bin, on the confidence in the bin, and, where the row is in a bin, on
    the class; a row with an infinite largest entry is in no bin for either. -/
theorem row_agree (x : FVec Ideal Cert.ReferenceIdeal.S1048576x128 .f32) (a : Fin 1048576) (k : Fin 16) (c : BitVec 32) :
    bit (lo k < Row.invMass (row x a) ∧ Row.invMass (row x a) ≤ hi k) = isIn (row x a) k
    ∧ bit (lo k < Row.invMass (row x a) ∧ Row.invMass (row x a) ≤ hi k) * Row.invMass (row x a) = Row.conf (row x a) * isIn (row x a) k
    ∧ bit (lo k < Row.invMass (row x a) ∧ Row.invMass (row x a) ≤ hi k) * bit (first (row x a) = c)
      = bit (pred x (ix1 a) = c) * isIn (row x a) k := by
  rcases Row.row_cases (row x a) with ⟨e, hM, hk, hle, hiff⟩ | ⟨e1, e2⟩
  · rw [e]
    refine ⟨rfl, mul_comm _ _, ?_⟩
    obtain ⟨k0, h0, hmin⟩ := Row.exists_first (fun k => row x a k = Row.top (row x a)) hk
    have hp := Cert.ReferenceIdeal.Run.pred_apply x a k0 hM hle ((hiff k0).2 h0) (fun k h => hmin k ((hiff k).1 h))
    have hf : first (row x a) = BitVec.ofNat 32 k0.val := by
      unfold first
      exact Row.min_fold (fun k => row x a k = Row.top (row x a)) k0 h0 hmin
    rw [hp, hf]
    exact mul_comm _ _
  · have i1 : bit (lo k < Row.invMass (row x a) ∧ Row.invMass (row x a) ≤ hi k) = 0 := by
      unfold bit
      rw [e1]
      exact if_neg fun h => absurd h.2 (not_le.2 (hi_lt_top k))
    have i2 : isIn (row x a) k = 0 := by
      unfold isIn bit
      rw [e2]
      exact if_neg fun h => absurd h.1 not_lt_bot
    rw [i1, i2]
    simp only [zero_mul, mul_zero, and_self]

/-- The rows, block by block. -/
def rowAt (t : Fin 256) (r : Fin 4096) : Fin 1048576 := ⟨4096 * t.val + r.val, by have := t.isLt; have := r.isLt; omega⟩

/-- A sum over the blocks of the sums over their rows is a sum over all rows. -/
theorem sum_blocks (f : Fin 1048576 → EReal) : ∑ t : Fin 256, ∑ r : Fin 4096, f (rowAt t r) = ∑ a : Fin 1048576, f a := by
  rw [← Fintype.sum_prod_type']
  refine Fintype.sum_equiv (finProdFinEquiv.trans (finCongr (by norm_num))) _ _ fun p => congrArg f (Fin.ext ?_)
  show 4096 * p.1.val + p.2.val = p.2.val + 4096 * p.1.val
  exact Nat.add_comm _ _

variable (x : FVec Ideal S1048576x128 .f32) (l : IVec S1048576 32)

/-- A row of a block of logits is a row of the logits. -/
theorem brow_xBlock (t : Fin 256) (r : Fin 4096) : brow (xBlock (F := Ideal) x t) r = row x (rowAt t r) := rfl

/-- A label of a block is a label. -/
theorem lBlock_apply (t : Fin 256) (r : Fin 4096) : (lBlock (F := Ideal) l t (ix3 0 0 r) : BitVec 32) = l (ix1 (rowAt t r)) := rfl

/-- What a block adds to the counts, in the reference's terms. -/
theorem newCnt_block (t : Fin 256) (s : FVec Ideal S1x16 .f32) (k : Fin 16) :
    (newCnt (F := Ideal) (xBlock (F := Ideal) x t) edges s (ix2 0 k) : EReal) = s (ix2 0 k) + ∑ r : Fin 4096, isIn (row x (rowAt t r)) k := by
  rw [newCnt_apply, loRow_edges, hiRow_edges]
  exact congrArg (_ + ·) (Finset.sum_congr rfl fun r _ => (row_agree x (rowAt t r) k 0).1)

/-- What a block adds to the confidence sums, in the reference's terms. -/
theorem newConf_block (t : Fin 256) (s : FVec Ideal S1x16 .f32) (k : Fin 16) :
    (newConf (F := Ideal) (xBlock (F := Ideal) x t) edges s (ix2 0 k) : EReal)
      = s (ix2 0 k) + ∑ r : Fin 4096, Row.conf (row x (rowAt t r)) * isIn (row x (rowAt t r)) k := by
  rw [newConf_apply, loRow_edges, hiRow_edges]
  exact congrArg (_ + ·) (Finset.sum_congr rfl fun r _ => (row_agree x (rowAt t r) k 0).2.1)

/-- What a block adds to the accuracy sums, in the reference's terms. -/
theorem newAcc_block (t : Fin 256) (s : FVec Ideal S1x16 .f32) (k : Fin 16) :
    (newAcc (F := Ideal) (xBlock (F := Ideal) x t) (lBlock (F := Ideal) l t) edges s (ix2 0 k) : EReal)
      = s (ix2 0 k) + ∑ r : Fin 4096, bit (pred x (ix1 (rowAt t r)) = l (ix1 (rowAt t r))) * isIn (row x (rowAt t r)) k := by
  rw [newAcc_apply, loRow_edges, hiRow_edges]
  exact congrArg (_ + ·) (Finset.sum_congr rfl fun r _ => (row_agree x (rowAt t r) k (l (ix1 (rowAt t r)))).2.2)

/-- The accumulators start from zero. -/
theorem zero_apply (k : Fin 16) : (k0_pay5 (F := Ideal) (ix2 0 k) : EReal) = 0 ∧ (k0_pay6 (F := Ideal) (ix2 0 k) : EReal) = 0
    ∧ (k0_pay7 (F := Ideal) (ix2 0 k) : EReal) = 0 := by
  refine ⟨?_, ?_, ?_⟩ <;> pointwise [k0_pay5, k0_pay6, k0_pay7]

/-- A sum over the blocks up to the `n`-th. -/
def upTo (g : Fin 256 → EReal) (n : ℕ) (h : n < 256) : EReal := ∑ t : Fin (n + 1), g (t.castLE h)

/-- Up to the first block. -/
theorem upTo_zero (g : Fin 256 → EReal) (h : 0 < 256) : upTo g 0 h = g ⟨0, h⟩ := Fin.sum_univ_one _

/-- Up to the next block. -/
theorem upTo_succ (g : Fin 256 → EReal) (n : ℕ) (h : n + 1 < 256) :
    upTo g (n + 1) h = upTo g n (Nat.lt_of_succ_lt h) + g ⟨n + 1, h⟩ := Fin.sum_univ_castSucc _

/-- How many rows of a block are in bin `k`. -/
def gCnt (k : Fin 16) (t : Fin 256) : EReal := ∑ r : Fin 4096, isIn (row x (rowAt t r)) k
/-- The sum of their confidences. -/
def gConf (k : Fin 16) (t : Fin 256) : EReal := ∑ r : Fin 4096, Row.conf (row x (rowAt t r)) * isIn (row x (rowAt t r)) k
/-- The sum of their accuracies. -/
def gAcc (k : Fin 16) (t : Fin 256) : EReal :=
  ∑ r : Fin 4096, bit (pred x (ix1 (rowAt t r)) = l (ix1 (rowAt t r))) * isIn (row x (rowAt t r)) k

/-- The accumulators after point `n`: sums over the blocks so far. -/
theorem accs_apply (k : Fin 16) : ∀ n (h : n < 256),
    ((accs (F := Ideal) x l n h).1 (ix2 0 k) : EReal) = upTo (gCnt x k) n h
    ∧ ((accs (F := Ideal) x l n h).2.1 (ix2 0 k) : EReal) = upTo (gConf x k) n h
    ∧ ((accs (F := Ideal) x l n h).2.2 (ix2 0 k) : EReal) = upTo (gAcc x l k) n h
  | 0, h => by
    obtain ⟨z5, z6, z7⟩ := zero_apply k
    rw [upTo_zero, upTo_zero, upTo_zero]
    refine ⟨(newCnt_block x ⟨0, h⟩ k0_pay5 k).trans ?_, (newConf_block x ⟨0, h⟩ k0_pay6 k).trans ?_, (newAcc_block x l ⟨0, h⟩ k0_pay7 k).trans ?_⟩
    · rw [z5, zero_add]; rfl
    · rw [z6, zero_add]; rfl
    · rw [z7, zero_add]; rfl
  | n + 1, h => by
    obtain ⟨e0, e1, e2⟩ := accs_apply k n (Nat.lt_of_succ_lt h)
    rw [upTo_succ, upTo_succ, upTo_succ, ← e0, ← e1, ← e2]
    exact ⟨newCnt_block x ⟨n + 1, h⟩ _ k, newConf_block x ⟨n + 1, h⟩ _ k, newAcc_block x l ⟨n + 1, h⟩ _ k⟩

/-- The kernel's result at an index is the first entry of the block the last point writes. -/
theorem result_eq (i : S1.Idx) : (result (F := Ideal) x l i : EReal) = outBlock (F := Ideal) x l (ix2 0 0) := by
  unfold result
  generalize outBlock (F := Ideal) x l = o
  pointwise []

/-- The kernel's result is the reference's. -/
theorem equation : (result (F := Ideal) x l : S1.Idx → EReal) = Cert.ReferenceIdeal.Run.result (F := Ideal) x l := by
  funext i
  rw [result_eq, Cert.ReferenceIdeal.Run.result_apply x l i]
  unfold outBlock
  rw [pay4_apply]
  refine Finset.sum_congr rfl fun k _ => ?_
  obtain ⟨e0, e1, e2⟩ := accs_apply x l k 255 (by decide)
  rw [e0, e1, e2]
  refine congrArg₂ (fun p q => p q) (congrArg₂ binTerm ?_ ?_) ?_
  · exact sum_blocks (fun a => isIn (row x a) k)
  · exact sum_blocks (fun a => Row.conf (row x a) * isIn (row x a) k)
  · exact sum_blocks (fun a => bit (pred x (ix1 a) = l (ix1 a)) * isIn (row x a) k)

end Cert.KernelIdeal.Block

end
-- ==== Proof.lean ====
/-
  The certificate: the frames of the kernel, of the kernel over the reals and of the reference, and the equation between
  kernel and reference over the reals, put together from the modules under Proof/ (hand-written).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel over the reals and the reference over the reals compute the same number from the same inputs. -/
theorem algebraic : Cert.algebraic_KernelIdeal_ReferenceIdeal (hKernelIdeal := Cert.KernelIdeal.Gen.facts) (hReferenceIdeal := Cert.ReferenceIdeal.Gen.facts) := by
  intro m g m' g' _ hargs
  refine ⟨_, Cert.KernelIdeal.Block.run (F := Ideal) m g, ?_⟩
  refine (θ_run _ _ _).mono (fun r h c => ⟨?_, (h c).2⟩) (Cert.ReferenceIdeal.Run.run (F := Ideal) m' g')
  rw [(h c).1]
  obtain ⟨e0, e1⟩ := hargs c
  rw [e0, e1]
  exact (Cert.KernelIdeal.Block.equation _ _).symm

/-- Everything the certificate claims: the kernel and the reference keep their arguments and end with every counter at
    zero, and kernel and reference agree over the reals. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Run.frame m ρ, trivial, algebraic⟩

end Cert.Proof

end
